-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x1024 : Shape := ⟨3, ![8, 8192, 1024]⟩
abbrev S8x8192x256 : Shape := ⟨3, ![8, 8192, 256]⟩
abbrev S16 : Shape := ⟨1, ![16]⟩
abbrev S4 : Shape := ⟨1, ![4]⟩
abbrev S1x256x1024 : Shape := ⟨3, ![1, 256, 1024]⟩
abbrev S1x256x256 : Shape := ⟨3, ![1, 256, 256]⟩
abbrev S4x9216x128 : Shape := ⟨3, ![4, 9216, 128]⟩
abbrev S4x80x9216 : Shape := ⟨3, ![4, 80, 9216]⟩
abbrev S1088x256 : Shape := ⟨2, ![1088, 256]⟩
abbrev S16x9216 : Shape := ⟨2, ![16, 9216]⟩
abbrev S1024x128 : Shape := ⟨2, ![1024, 128]⟩
abbrev S1x1024x128 : Shape := ⟨3, ![1, 1024, 128]⟩
abbrev S64x1024 : Shape := ⟨2, ![64, 1024]⟩
abbrev S1x64x1024 : Shape := ⟨3, ![1, 64, 1024]⟩
abbrev S1x16x9216 : Shape := ⟨3, ![1, 16, 9216]⟩
abbrev S256x256 : Shape := ⟨2, ![256, 256]⟩
abbrev S256x128 : Shape := ⟨2, ![256, 128]⟩
abbrev S1x256x128 : Shape := ⟨3, ![1, 256, 128]⟩
abbrev S64x256 : Shape := ⟨2, ![64, 256]⟩
abbrev S1x64x256 : Shape := ⟨3, ![1, 64, 256]⟩
abbrev S1x256 : Shape := ⟨2, ![1, 256]⟩
abbrev S1x1088x128 : Shape := ⟨3, ![1, 1088, 128]⟩
abbrev S1088x128 : Shape := ⟨2, ![1088, 128]⟩
abbrev S64x64 : Shape := ⟨2, ![64, 64]⟩
abbrev S64x128 : Shape := ⟨2, ![64, 128]⟩
abbrev S1 : Shape := ⟨1, ![1]⟩
abbrev S256 : Shape := ⟨1, ![256]⟩
abbrev S1152x256 : Shape := ⟨2, ![1152, 256]⟩
abbrev S1x80x1152 : Shape := ⟨3, ![1, 80, 1152]⟩
abbrev S80x1152 : Shape := ⟨2, ![80, 1152]⟩
abbrev S80x256 : Shape := ⟨2, ![80, 256]⟩
abbrev S128x64 : Shape := ⟨2, ![128, 64]⟩
abbrev S1x64x128 : Shape := ⟨3, ![1, 64, 128]⟩

abbrev nBuf : Space → Nat
  | .hbm => 7
  | .vmem => 12
  | .smem => 3
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S8x8192x1024, .bf16⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x256x256, .fp8e4m3⟩
  | .local _ .vmem, ⟨3, _⟩ => ⟨S1x256x256, .fp8e4m3⟩
  | .local _ .vmem, ⟨4, _⟩ => ⟨S1x256x256, .fp8e4m3⟩
  | .local _ .vmem, ⟨5, _⟩ => ⟨S1x256x256, .fp8e4m3⟩
  | .local _ .vmem, ⟨6, _⟩ => ⟨S1x256x1024, .bf16⟩
  | .local _ .vmem, ⟨7, _⟩ => ⟨S1x256x1024, .bf16⟩
  | .local _ .vmem, ⟨8, _⟩ => ⟨S4x9216x128, .fp8e4m3⟩
  | .local _ .vmem, ⟨9, _⟩ => ⟨S4x80x9216, .bf16⟩
  | .local _ .vmem, ⟨10, _⟩ => ⟨S1088x256, .f32⟩
  | .local _ .vmem, ⟨11, _⟩ => ⟨S1088x256, .f32⟩
  | .local _ .smem, ⟨0, _⟩ => ⟨S16, .f32⟩
  | .local _ .smem, ⟨1, _⟩ => ⟨S4, .f32⟩
  | .local _ .smem, ⟨2, _⟩ => ⟨S4, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 3 → Nat :=
  let c0_7 : Index := 0#32
  let arg1 : BitVec 32 := BitVec.ofNat 32 (i 1).val
  let c256_i32 : BitVec 32 := 256#32
  let v5 : BitVec 32 := Scalar.muli arg1 c256_i32
  let v6 : BitVec 32 := v5
  let c1024_i32 : BitVec 32 := 1024#32
  let v14 : BitVec 32 := Scalar.addi v6 c1024_i32
  let v15 : Index := Scalar.indexCast v14
  let c0_8 : Index := 0#32
  ![0, v15.toNat, 0]
def k0_off2 (i : grid0.Coords) : Fin 3 → Nat :=
  let c0_10 : Index := 0#32
  let c0_11 : Index := 0#32
  let arg1 : BitVec 32 := BitVec.ofNat 32 (i 1).val
  let c256_i32 : BitVec 32 := 256#32
  let v5 : BitVec 32 := Scalar.muli arg1 c256_i32
  let v6 : BitVec 32 := v5
  let c1024_i32_9 : BitVec 32 := 1024#32
  let v20 : BitVec 32 := Scalar.addi v6 c1024_i32_9
  let v21 : Index := Scalar.indexCast v20
  ![0, 0, v21.toNat]
def k0_off3 (i : grid0.Coords) : Fin 3 → Nat :=
  let c1 : Index := 1#32
  let arg1 : BitVec 32 := BitVec.ofNat 32 (i 1).val
  let c256_i32 : BitVec 32 := 256#32
  let v5 : BitVec 32 := Scalar.muli arg1 c256_i32
  let v6 : BitVec 32 := v5
  let c1024_i32_12 : BitVec 32 := 1024#32
  let v26 : BitVec 32 := Scalar.addi v6 c1024_i32_12
  let v27 : Index := Scalar.indexCast v26
  let c0_13 : Index := 0#32
  ![1, v27.toNat, 0]
def k0_off4 (i : grid0.Coords) : Fin 3 → Nat :=
  let c1_15 : Index := 1#32
  let c0_16 : Index := 0#32
  let arg1 : BitVec 32 := BitVec.ofNat 32 (i 1).val
  let c256_i32 : BitVec 32 := 256#32
  let v5 : BitVec 32 := Scalar.muli arg1 c256_i32
  let v6 : BitVec 32 := v5
  let c1024_i32_14 : BitVec 32 := 1024#32
  let v32 : BitVec 32 := Scalar.addi v6 c1024_i32_14
  let v33 : Index := Scalar.indexCast v32
  ![1, 0, v33.toNat]
def k0_off5 (i : grid0.Coords) : Fin 3 → Nat :=
  let c2 : Index := 2#32
  let arg1 : BitVec 32 := BitVec.ofNat 32 (i 1).val
  let c256_i32 : BitVec 32 := 256#32
  let v5 : BitVec 32 := Scalar.muli arg1 c256_i32
  let v6 : BitVec 32 := v5
  let c1024_i32_17 : BitVec 32 := 1024#32
  let v38 : BitVec 32 := Scalar.addi v6 c1024_i32_17
  let v39 : Index := Scalar.indexCast v38
  let c0_18 : Index := 0#32
  ![2, v39.toNat, 0]
def k0_off6 (i : grid0.Coords) : Fin 3 → Nat :=
  let c2_20 : Index := 2#32
  let c0_21 : Index := 0#32
  let arg1 : BitVec 32 := BitVec.ofNat 32 (i 1).val
  let c256_i32 : BitVec 32 := 256#32
  let v5 : BitVec 32 := Scalar.muli arg1 c256_i32
  let v6 : BitVec 32 := v5
  let c1024_i32_19 : BitVec 32 := 1024#32
  let v44 : BitVec 32 := Scalar.addi v6 c1024_i32_19
  let v45 : Index := Scalar.indexCast v44
  ![2, 0, v45.toNat]
def k0_off7 (i : grid0.Coords) : Fin 3 → Nat :=
  let c3 : Index := 3#32
  let arg1 : BitVec 32 := BitVec.ofNat 32 (i 1).val
  let c256_i32 : BitVec 32 := 256#32
  let v5 : BitVec 32 := Scalar.muli arg1 c256_i32
  let v6 : BitVec 32 := v5
  let c1024_i32_22 : BitVec 32 := 1024#32
  let v50 : BitVec 32 := Scalar.addi v6 c1024_i32_22
  let v51 : Index := Scalar.indexCast v50
  let c0_23 : Index := 0#32
  ![3, v51.toNat, 0]
def k0_off8 (i : grid0.Coords) : Fin 3 → Nat :=
  let c3_25 : Index := 3#32
  let c0_26 : Index := 0#32
  let arg1 : BitVec 32 := BitVec.ofNat 32 (i 1).val
  let c256_i32 : BitVec 32 := 256#32
  let v5 : BitVec 32 := Scalar.muli arg1 c256_i32
  let v6 : BitVec 32 := v5
  let c1024_i32_24 : BitVec 32 := 1024#32
  let v56 : BitVec 32 := Scalar.addi v6 c1024_i32_24
  let v57 : Index := Scalar.indexCast v56
  ![3, 0, v57.toNat]
def k0_mult2 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_32 : BitVec 32 := 0#32
  let v86 : BitVec 32 := Scalar.addi v6 c0_i32_32
  v86
def k0_off9 (i : grid0.Coords) (c0_i32_32 : BitVec 32) : Fin 3 → Nat :=
  let c0_33 : Index := 0#32
  let arg1 : BitVec 32 := BitVec.ofNat 32 (i 1).val
  let c256_i32 : BitVec 32 := 256#32
  let v5 : BitVec 32 := Scalar.muli arg1 c256_i32
  let v6 : BitVec 32 := v5
  let v86 : BitVec 32 := Scalar.addi v6 c0_i32_32
  let v87 : BitVec 32 := v86
  let v88 : Index := Scalar.indexCast v87
  let c0_34 : Index := 0#32
  ![0, v88.toNat, 0]
def k0_mult3 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_68 : BitVec 32 := 0#32
  let v181 : BitVec 32 := Scalar.addi v6 c0_i32_68
  v181
def k0_off10 (i : grid0.Coords) (c0_i32_68 : BitVec 32) : Fin 3 → Nat :=
  let c1_69 : Index := 1#32
  let arg1 : BitVec 32 := BitVec.ofNat 32 (i 1).val
  let c256_i32 : BitVec 32 := 256#32
  let v5 : BitVec 32 := Scalar.muli arg1 c256_i32
  let v6 : BitVec 32 := v5
  let v181 : BitVec 32 := Scalar.addi v6 c0_i32_68
  let v182 : BitVec 32 := v181
  let v183 : Index := Scalar.indexCast v182
  let c0_70 : Index := 0#32
  ![1, v183.toNat, 0]
def k0_mult4 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_106 : BitVec 32 := 0#32
  let v283 : BitVec 32 := Scalar.addi v6 c0_i32_106
  v283
def k0_off11 (i : grid0.Coords) (c0_i32_106 : BitVec 32) : Fin 3 → Nat :=
  let c0_108 : Index := 0#32
  let c0_109 : Index := 0#32
  let arg1 : BitVec 32 := BitVec.ofNat 32 (i 1).val
  let c256_i32 : BitVec 32 := 256#32
  let v5 : BitVec 32 := Scalar.muli arg1 c256_i32
  let v6 : BitVec 32 := v5
  let v283 : BitVec 32 := Scalar.addi v6 c0_i32_106
  let v284 : BitVec 32 := v283
  let v287 : Index := Scalar.indexCast v284
  ![0, 0, v287.toNat]
def k0_mult5 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_117 : BitVec 32 := 0#32
  let v313 : BitVec 32 := Scalar.addi v6 c0_i32_117
  v313
def k0_off12 (i : grid0.Coords) (c0_i32_117 : BitVec 32) : Fin 3 → Nat :=
  let c2_118 : Index := 2#32
  let arg1 : BitVec 32 := BitVec.ofNat 32 (i 1).val
  let c256_i32 : BitVec 32 := 256#32
  let v5 : BitVec 32 := Scalar.muli arg1 c256_i32
  let v6 : BitVec 32 := v5
  let v313 : BitVec 32 := Scalar.addi v6 c0_i32_117
  let v314 : BitVec 32 := v313
  let v315 : Index := Scalar.indexCast v314
  let c0_119 : Index := 0#32
  ![2, v315.toNat, 0]
def k0_mult6 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_155 : BitVec 32 := 0#32
  let v415 : BitVec 32 := Scalar.addi v6 c0_i32_155
  v415
def k0_off13 (i : grid0.Coords) (c0_i32_155 : BitVec 32) : Fin 3 → Nat :=
  let c1_157 : Index := 1#32
  let c0_158 : Index := 0#32
  let arg1 : BitVec 32 := BitVec.ofNat 32 (i 1).val
  let c256_i32 : BitVec 32 := 256#32
  let v5 : BitVec 32 := Scalar.muli arg1 c256_i32
  let v6 : BitVec 32 := v5
  let v415 : BitVec 32 := Scalar.addi v6 c0_i32_155
  let v416 : BitVec 32 := v415
  let v419 : Index := Scalar.indexCast v416
  ![1, 0, v419.toNat]
def k0_mult7 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_166 : BitVec 32 := 0#32
  let v445 : BitVec 32 := Scalar.addi v6 c0_i32_166
  v445
def k0_off14 (i : grid0.Coords) (c0_i32_166 : BitVec 32) : Fin 3 → Nat :=
  let c3_167 : Index := 3#32
  let arg1 : BitVec 32 := BitVec.ofNat 32 (i 1).val
  let c256_i32 : BitVec 32 := 256#32
  let v5 : BitVec 32 := Scalar.muli arg1 c256_i32
  let v6 : BitVec 32 := v5
  let v445 : BitVec 32 := Scalar.addi v6 c0_i32_166
  let v446 : BitVec 32 := v445
  let v447 : Index := Scalar.indexCast v446
  let c0_168 : Index := 0#32
  ![3, v447.toNat, 0]
def k0_mult8 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_204 : BitVec 32 := 0#32
  let v547 : BitVec 32 := Scalar.addi v6 c0_i32_204
  v547
def k0_off15 (i : grid0.Coords) (c0_i32_204 : BitVec 32) : Fin 3 → Nat :=
  let c2_206 : Index := 2#32
  let c0_207 : Index := 0#32
  let arg1 : BitVec 32 := BitVec.ofNat 32 (i 1).val
  let c256_i32 : BitVec 32 := 256#32
  let v5 : BitVec 32 := Scalar.muli arg1 c256_i32
  let v6 : BitVec 32 := v5
  let v547 : BitVec 32 := Scalar.addi v6 c0_i32_204
  let v548 : BitVec 32 := v547
  let v551 : Index := Scalar.indexCast v548
  ![2, 0, v551.toNat]
def k0_mult9 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c64_i32_215 : BitVec 32 := 64#32
  let v577 : BitVec 32 := Scalar.addi v6 c64_i32_215
  v577
def k0_mult10 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_257 : BitVec 32 := 0#32
  let v679 : BitVec 32 := Scalar.addi v6 c0_i32_257
  v679
def k0_off16 (i : grid0.Coords) (c0_i32_257 : BitVec 32) : Fin 3 → Nat :=
  let c3_259 : Index := 3#32
  let c0_260 : Index := 0#32
  let arg1 : BitVec 32 := BitVec.ofNat 32 (i 1).val
  let c256_i32 : BitVec 32 := 256#32
  let v5 : BitVec 32 := Scalar.muli arg1 c256_i32
  let v6 : BitVec 32 := v5
  let v679 : BitVec 32 := Scalar.addi v6 c0_i32_257
  let v680 : BitVec 32 := v679
  let v683 : Index := Scalar.indexCast v680
  ![3, 0, v683.toNat]
def k0_mult11 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c64_i32_268 : BitVec 32 := 64#32
  let v709 : BitVec 32 := Scalar.addi v6 c64_i32_268
  v709
def k0_mult12 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_312 : BitVec 32 := 0#32
  let v813 : BitVec 32 := Scalar.addi v6 c0_i32_312
  v813
def k0_mult13 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c64_i32_323 : BitVec 32 := 64#32
  let v841 : BitVec 32 := Scalar.addi v6 c64_i32_323
  v841
def k0_mult14 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_367 : BitVec 32 := 0#32
  let v945 : BitVec 32 := Scalar.addi v6 c0_i32_367
  v945
def k0_mult15 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c64_i32_378 : BitVec 32 := 64#32
  let v973 : BitVec 32 := Scalar.addi v6 c64_i32_378
  v973
def k0_mult16 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_422 : BitVec 32 := 0#32
  let v1077 : BitVec 32 := Scalar.addi v6 c0_i32_422
  v1077
def k0_mult17 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32 : BitVec 32 := 128#32
  let v1105 : BitVec 32 := Scalar.addi v6 c128_i32
  v1105
def k0_mult18 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c0_i32_476 : BitVec 32 := 0#32
  let v1209 : BitVec 32 := Scalar.addi v6 c0_i32_476
  v1209
def k0_mult19 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_487 : BitVec 32 := 128#32
  let v1237 : BitVec 32 := Scalar.addi v6 c128_i32_487
  v1237
def k0_mult20 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_530 : BitVec 32 := 128#32
  let v1339 : BitVec 32 := Scalar.addi v6 c128_i32_530
  v1339
def k0_mult21 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_542 : BitVec 32 := 128#32
  let v1369 : BitVec 32 := Scalar.addi v6 c128_i32_542
  v1369
def k0_mult22 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_585 : BitVec 32 := 128#32
  let v1471 : BitVec 32 := Scalar.addi v6 c128_i32_585
  v1471
def k0_mult23 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_597 : BitVec 32 := 128#32
  let v1501 : BitVec 32 := Scalar.addi v6 c128_i32_597
  v1501
def k0_mult24 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_640 : BitVec 32 := 128#32
  let v1603 : BitVec 32 := Scalar.addi v6 c128_i32_640
  v1603
def k0_mult25 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c192_i32 : BitVec 32 := 192#32
  let v1633 : BitVec 32 := Scalar.addi v6 c192_i32
  v1633
def k0_mult26 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_693 : BitVec 32 := 128#32
  let v1735 : BitVec 32 := Scalar.addi v6 c128_i32_693
  v1735
def k0_mult27 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c192_i32_705 : BitVec 32 := 192#32
  let v1765 : BitVec 32 := Scalar.addi v6 c192_i32_705
  v1765
def k0_mult28 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_749 : BitVec 32 := 128#32
  let v1869 : BitVec 32 := Scalar.addi v6 c128_i32_749
  v1869
def k0_mult29 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c192_i32_760 : BitVec 32 := 192#32
  let v1897 : BitVec 32 := Scalar.addi v6 c192_i32_760
  v1897
def k0_mult30 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_804 : BitVec 32 := 128#32
  let v2001 : BitVec 32 := Scalar.addi v6 c128_i32_804
  v2001
def k0_mult31 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c192_i32_815 : BitVec 32 := 192#32
  let v2029 : BitVec 32 := Scalar.addi v6 c192_i32_815
  v2029
def k0_mult32 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_859 : BitVec 32 := 128#32
  let v2133 : BitVec 32 := Scalar.addi v6 c128_i32_859
  v2133
def k0_mult33 (i : grid0.Coords) : BitVec 32 :=
  let arg1 : BitVec 32 := BitVec.ofNat 32 (i 1).val
  let c256_i32 : BitVec 32 := 256#32
  let v5 : BitVec 32 := Scalar.muli arg1 c256_i32
  let v6 : BitVec 32 := v5
  let c128_i32_874 : BitVec 32 := 128#32
  let v2170 : BitVec 32 := Scalar.addi v6 c128_i32_874
  v2170
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x8192x1024 : Shape := ⟨3, ![8, 8192, 1024]⟩
abbrev S8x8192x256 : Shape := ⟨3, ![8, 8192, 256]⟩
abbrev S16 : Shape := ⟨1, ![16]⟩
abbrev S4 : Shape := ⟨1, ![4]⟩
abbrev S1x1 : Shape := ⟨2, ![1, 1]⟩
abbrev S8x8192x4x4x64 : Shape := ⟨5, ![8, 8192, 4, 4, 64]⟩
abbrev S8x4x4x8192x64 : Shape := ⟨5, ![8, 4, 4, 8192, 64]⟩
abbrev S8x8192x4x64 : Shape := ⟨4, ![8, 8192, 4, 64]⟩
abbrev S8x4x8192x64 : Shape := ⟨4, ![8, 4, 8192, 64]⟩
abbrev S4x4 : Shape := ⟨2, ![4, 4]⟩
abbrev S4x1 : Shape := ⟨2, ![4, 1]⟩
abbrev S_ : Shape := ⟨0, ![]⟩
abbrev S8x4x4x8192x8192 : Shape := ⟨5, ![8, 4, 4, 8192, 8192]⟩
abbrev S1x4x4x1x1 : Shape := ⟨5, ![1, 4, 4, 1, 1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x1x8192x8192 : Shape := ⟨5, ![1, 1, 1, 8192, 8192]⟩
abbrev S8x4x4x8192 : Shape := ⟨4, ![8, 4, 4, 8192]⟩
abbrev S8x4x4x8192x1 : Shape := ⟨5, ![8, 4, 4, 8192, 1]⟩
abbrev S1x4x1x1x1 : Shape := ⟨5, ![1, 4, 1, 1, 1]⟩

abbrev nBuf : Space → Nat
  | .hbm => 68
  | .vmem => 7
  | .smem => 0
  | _ => 0

abbrev bufTy : (tb : Table) → Fin (tcTables nBuf tb) → BufTy
  | .hbm, ⟨0, _⟩ => ⟨S8x8192x1024, .fp8e4m3⟩
  | .hbm, ⟨1, _⟩ => ⟨S8x8192x256, .fp8e4m3⟩
  | .hbm, ⟨2, _⟩ => ⟨S8x8192x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S8x8192x1024, .bf16⟩
  | .hbm, ⟨7, _⟩ => ⟨S8x8192x256, .bf16⟩
  | .hbm, ⟨8, _⟩ => ⟨S8x8192x256, .bf16⟩
  | .hbm, ⟨9, _⟩ => ⟨S1x1, .f32⟩
  | .hbm, ⟨10, _⟩ => ⟨S8x8192x4x4x64, .bf16⟩
  | .hbm, ⟨11, _⟩ => ⟨S8x4x4x8192x64, .bf16⟩
  | .hbm, ⟨12, _⟩ => ⟨S8x8192x4x64, .bf16⟩
  | .hbm, ⟨13, _⟩ => ⟨S8x4x8192x64, .bf16⟩
  | .hbm, ⟨14, _⟩ => ⟨S8x8192x4x64, .bf16⟩
  | .hbm, ⟨15, _⟩ => ⟨S8x4x8192x64, .bf16⟩
  | .hbm, ⟨16, _⟩ => ⟨S4x4, .f32⟩
  | .hbm, ⟨17, _⟩ => ⟨S4x1, .f32⟩
  | .hbm, ⟨18, _⟩ => ⟨S4x4, .f32⟩
  | .hbm, ⟨19, _⟩ => ⟨S4x4, .f32⟩
  | .hbm, ⟨20, _⟩ => ⟨S_, .f32⟩
  | .hbm, ⟨21, _⟩ => ⟨S4x4, .f32⟩
  | .hbm, ⟨22, _⟩ => ⟨S4x4, .f32⟩
  | .hbm, ⟨23, _⟩ => ⟨S8x4x4x8192x8192, .f32⟩
  | .hbm, ⟨24, _⟩ => ⟨S1x4x4x1x1, .f32⟩
  | .hbm, ⟨25, _⟩ => ⟨S8x4x4x8192x8192, .f32⟩
  | .hbm, ⟨26, _⟩ => ⟨S8x4x4x8192x8192, .f32⟩
  | .hbm, ⟨27, _⟩ => ⟨S8192, .i32⟩
  | .hbm, ⟨28, _⟩ => ⟨S8192x1, .i32⟩
  | .hbm, ⟨29, _⟩ => ⟨S8192, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S8192x8192, .i1⟩
  | .hbm, ⟨41, _⟩ => ⟨S1x1x1x8192x8192, .i1⟩
  | .hbm, ⟨42, _⟩ => ⟨S_, .f32⟩
  | .hbm, ⟨43, _⟩ => ⟨S8x4x4x8192x8192, .i1⟩
  | .hbm, ⟨44, _⟩ => ⟨S8x4x4x8192x8192, .f32⟩
  | .hbm, ⟨45, _⟩ => ⟨S8x4x4x8192x8192, .f32⟩
  | .hbm, ⟨46, _⟩ => ⟨S_, .f32⟩
  | .hbm, ⟨47, _⟩ => ⟨S8x4x4x8192, .f32⟩
  | .hbm, ⟨48, _⟩ => ⟨S8x4x4x8192x1, .f32⟩
  | .hbm, ⟨49, _⟩ => ⟨S8x4x4x8192x8192, .f32⟩
  | .hbm, ⟨50, _⟩ => ⟨S8x4x4x8192x8192, .f32⟩
  | .hbm, ⟨51, _⟩ => ⟨S8x4x4x8192x8192, .f32⟩
  | .hbm, ⟨52, _⟩ => ⟨S_, .f32⟩
  | .hbm, ⟨53, _⟩ => ⟨S8x4x4x8192, .f32⟩
  | .hbm, ⟨54, _⟩ => ⟨S8x4x4x8192x1, .f32⟩
  | .hbm, ⟨55, _⟩ => ⟨S_, .f32⟩
  | .hbm, ⟨56, _⟩ => ⟨S8x4x4x8192x1, .f32⟩
  | .hbm, ⟨57, _⟩ => ⟨S8x4x4x8192x1, .f32⟩
  | .hbm, ⟨58, _⟩ => ⟨S8x4x4x8192x8192, .f32⟩
  | .hbm, ⟨59, _⟩ => ⟨S8x4x4x8192x8192, .f32⟩
  | .hbm, ⟨60, _⟩ => ⟨S8x4x4x8192x8192, .bf16⟩
  | .hbm, ⟨61, _⟩ => ⟨S8x4x4x8192x64, .f32⟩
  | .hbm, ⟨62, _⟩ => ⟨S1x4x1x1x1, .f32⟩
  | .hbm, ⟨63, _⟩ => ⟨S8x4x4x8192x64, .f32⟩
  | .hbm, ⟨64, _⟩ => ⟨S8x4x4x8192x64, .f32⟩
  | .hbm, ⟨65, _⟩ => ⟨S8x4x4x8192x64, .bf16⟩
  | .hbm, ⟨66, _⟩ => ⟨S8x8192x4x4x64, .bf16⟩
  | .hbm, ⟨67, _⟩ => ⟨S8x8192x1024, .bf16⟩
  | .local _ .vmem, ⟨0, _⟩ => ⟨S8x8192x1024, .fp8e4m3⟩
  | .local _ .vmem, ⟨1, _⟩ => ⟨S8x8192x256, .fp8e4m3⟩
  | .local _ .vmem, ⟨2, _⟩ => ⟨S8x8192x256, .fp8e4m3⟩
  | .local _ .vmem, ⟨3, _⟩ => ⟨S8x8192x1024, .bf16⟩
  | .local _ .vmem, ⟨4, _⟩ => ⟨S8x8192x256, .bf16⟩
  | .local _ .vmem, ⟨5, _⟩ => ⟨S8x8192x256, .bf16⟩
  | .local _ .vmem, ⟨6, _⟩ => ⟨S1x1, .f32⟩
  | _, _ => ⟨S8x8192x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_v32 : Ref sig .tc := ⟨.hbm, 45, rfl⟩
abbrev main_cst_0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_1 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "mask" => some ⊥
  | _ => none

abbrev grid0 : Pipeline.Grid := .none

abbrev stage0_0 : Fin 1 → Memref sig .tc .vmem S8x8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Run.lean ====
module

public import proofs.«01_k».proof.Proof.Gen.Kernel.Frame
public import proofs.«01_k».proof.Proof.Gen.Kernel.Skeleton
public import Idealize.ShloMosaic.Lib.Tactic
public import Idealize.ShloMosaic.Lib.Ring
public import Idealize.ShloMosaic.Lib.WordCmp
public import Idealize.ShloMosaic.Lib.Pipeline.FrameBody

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, over the point's coordinates: both are 0. -/
abbrev cond (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
/-- The body run once, on any whole memrefs, at a point of the grid where both coordinates are 0, so that the two buffers are initialised first: what its stores leave in the output block, in the key
    buffer and in the value buffer, as pieces written last first, found by the run. `k0` and `v0` are what the two buffers held before. -/
noncomputable def runA (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    { L : List (View.Piece (Elt F) S1x256x1024 .bf16) × List (View.Piece (Elt F) S4x9216x128 .fp8e4m3) × List (View.Piece (Elt F) S4x80x9216 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare k0 ∗ owns (c : Thread nD τ) arg10 fullShare v0 ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (arg9.view.loc (c : Thread nD τ) ↦[arg9.view.set]{fullShare} arg9.view.writes (Elt F) (harg9.unread k0) L.2.1) ∗ (arg10.view.loc (c : Thread nD τ) ↦[arg10.view.set]{fullShare} arg10.view.writes (Elt F) (harg10.unread v0) L.2.2) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fk, %hfk, HK⟩, ⟨%fv, %hfv, HV⟩, ⟨%d7, %f7, -, HS⟩, ⟨%d8, %f8, -, HT⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfk; obtain rfl := harg10.eq_unread hfv
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HK]
    · iexact HK
    isplitl [HV]
    · iexact HV
    isplitl [HS]
    · iexists _, _; isplitr; swap; · iexact HS
      ipureintro; rfl
    iexists _, _; isplitr; swap; · iexact HT
    ipureintro; rfl

set_option maxHeartbeats 4000000 in
/-- The body run once, on any whole memrefs, at a point of the grid other than the first: what its stores leave in the output block, in the key
    buffer and in the value buffer, as pieces written last first, found by the run. `k0` and `v0` are what the two buffers held before. -/
noncomputable def runB (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : ¬cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    { L : List (View.Piece (Elt F) S1x256x1024 .bf16) × List (View.Piece (Elt F) S4x9216x128 .fp8e4m3) × List (View.Piece (Elt F) S4x80x9216 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare k0 ∗ owns (c : Thread nD τ) arg10 fullShare v0 ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (arg9.view.loc (c : Thread nD τ) ↦[arg9.view.set]{fullShare} arg9.view.writes (Elt F) (harg9.unread k0) L.2.1) ∗ (arg10.view.loc (c : Thread nD τ) ↦[arg10.view.set]{fullShare} arg10.view.writes (Elt F) (harg10.unread v0) L.2.2) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fk, %hfk, HK⟩, ⟨%fv, %hfv, HV⟩, ⟨%d7, %f7, -, HS⟩, ⟨%d8, %f8, -, HT⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfk; obtain rfl := harg10.eq_unread hfv
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HK]
    · iexact HK
    isplitl [HV]
    · iexact HV
    isplitl [HS]
    · iexists _, _; isplitr; swap; · iexact HS
      ipureintro; rfl
    iexists _, _; isplitr; swap; · iexact HT
    ipureintro; rfl

end Cert.Kernel.Body

end
-- ==== Proof.Kernel.At.lean ====
module

public import proofs.«01_k».proof.Proof.Kernel.Run
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The memrefs the body is called with at a point: each window's current buffer, and the four scratch buffers whole. -/

abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S4 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x256 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x1024 .bf16 := win0_6.stage (cfg0.slots t 6)
abbrev hs6 (t : Fin cfg0.N) : (ms6 t).IsWhole := hstage0_6 ((cfg0.slots t 6).cast nbuf0_6)
abbrev sc0 : Memref sig .tc .vmem S4x9216x128 .fp8e4m3 := Memref.whole cc0_scratch0
abbrev sc1 : Memref sig .tc .vmem S4x80x9216 .bf16 := Memref.whole cc0_scratch1
abbrev sc2 : Memref sig .tc .vmem S1088x256 .f32 := Memref.whole cc0_scratch2
abbrev sc3 : Memref sig .tc .vmem S1088x256 .f32 := Memref.whole cc0_scratch3

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The body's table at a point is the body as the points' module spells it. -/
theorem defs₀_row (t : Fin cfg0.N) :
    defs₀ (F := F) .tc cfg0.body (cfg0.bodyArgs t (cfg0.slots t)) = bodyAt0 t := by
  unfold defs₀; rw [Defs.onTc_tc]

/-- What the body's stores leave at point `t`, whichever case the point is in. -/
def left (c : Dev nD) (t : Fin cfg0.N) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    List (View.Piece (Elt F) S1x256x1024 .bf16) × List (View.Piece (Elt F) S4x9216x128 .fp8e4m3) × List (View.Piece (Elt F) S4x80x9216 .bf16) :=
  if hc : cond (grid0.coords t) then (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 else (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1

/-- The body at point `t`: given the inputs' blocks and what the two buffers held, it ends with the pieces `left` written. -/
theorem run_at (c : Dev nD) (t : Fin cfg0.N) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) (E : Set ℕ) (K : PUnit → sProp 𝕄) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ d, owns (c : Thread nD τ) (ms6 t) fullShare d) ∗ owns (c : Thread nD τ) sc0 fullShare k0 ∗ owns (c : Thread nD τ) sc1 fullShare v0 ∗ (∃ d, owns (c : Thread nD τ) sc2 fullShare d) ∗ (∃ d, owns (c : Thread nD τ) sc3 fullShare d)
      ∗ (iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ f, (ms6 t).view.loc (c : Thread nD τ) ↦[(ms6 t).view.set]{fullShare} (ms6 t).view.writes (Elt F) f (left c t x0 x1 x2 x3 x4 x5 k0 v0).1) ∗ (sc0.view.loc (c : Thread nD τ) ↦[sc0.view.set]{fullShare} sc0.view.writes (Elt F) ((Memref.isWhole_whole cc0_scratch0).unread k0) (left c t x0 x1 x2 x3 x4 x5 k0 v0).2.1) ∗ (sc1.view.loc (c : Thread nD τ) ↦[sc1.view.set]{fullShare} sc1.view.writes (Elt F) ((Memref.isWhole_whole cc0_scratch1).unread v0) (left c t x0 x1 x2 x3 x4 x5 k0 v0).2.2) ∗ (∃ d, owns (c : Thread nD τ) sc2 fullShare d) ∗ (∃ d, owns (c : Thread nD τ) sc3 fullShare d)) -∗ K ⟨⟩))
      ⊢ wp frame (wpE (defs₀ (F := F)) Variants.none c none) E (bodyAt0 t) K := by
  unfold left bodyAt0
  split
  · exact (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) _ x0 x1 x2 x3 x4 x5 k0 v0).2 E K
  · exact (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) _ x0 x1 x2 x3 x4 x5 k0 v0).2 E K

end Cert.Kernel.Body

end
-- ==== Proof.Kernel.Frame.lean ====
module

public import proofs.«01_k».proof.Proof.Kernel.At

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window of which nothing is said here: the output's. -/
def forgets : Fin 7 → Bool := fun w => w.val == 6

/-- The proof data of the pipeline when nothing is said of the output: the inputs' buffers at their blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t)
    ∗ (∃ d, owns (c : Thread nD τ) (ms6 t) fullShare d))

set_option maxHeartbeats 3200000 in
/-- The body at any point keeps the inputs' blocks and returns the output's buffer and the scratch at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq,
    after0, after1, after2, after3, after4, after5]
  iintro ⟨⟨⟨⟨%k0, HK⟩, ⟨%v0, HV⟩, HS, HT⟩, Hg⟩, Ho, ⟨%d0, H0⟩, ⟨%d1, H1⟩, ⟨%d2, H2⟩, ⟨%d3, H3⟩, ⟨%d4, H4⟩, ⟨%d5, H5⟩, H6⟩
  iapply (run_at c t (iblk m c 0 t) (iblk m c 1 t) (iblk m c 2 t) (iblk m c 3 t) (iblk m c 4 t) (iblk m c 5 t) k0 v0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HK]; · iexact HK
  isplitl [HV]; · iexact HV
  isplitl [HS]; · iexact HS
  isplitl [HT]; · iexact HT
  iintro ⟨H0, H1, H2, H3, H4, H5, ⟨%e6, H6⟩, HK, HV, HS, HT⟩
  isplitl [HK HV HS HT Hg]
  · isplitl [HK HV HS HT]
    · isplitl [HK]
      · unfold owns; iexists _, _; isplitr; swap; · iexact HK
        ipureintro; rfl
      isplitl [HV]
      · unfold owns; iexists _, _; isplitr; swap; · iexact HV
        ipureintro; rfl
      isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _, _; isplitr; swap; · iexact H6
  ipureintro; rfl

/-- The library's body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every run ends with the inputs' arrays as they were, and every counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments end unchanged. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h.1 c 3 rfl).trans ((A_eq m c 3).trans (V_main_arg0 m c)),
    (Pipeline.RDat.FramePost.arr_in h.1 c 4 rfl).trans ((A_eq m c 4).trans (V_main_arg1 m c)),
    (Pipeline.RDat.FramePost.arr_in h.1 c 5 rfl).trans ((A_eq m c 5).trans (V_main_arg2 m c)),
    (Pipeline.RDat.FramePost.arr_in h.1 c 0 rfl).trans ((A_eq m c 0).trans (V_main_arg3 m c)),
    (Pipeline.RDat.FramePost.arr_in h.1 c 1 rfl).trans ((A_eq m c 1).trans (V_main_arg4 m c)),
    (Pipeline.RDat.FramePost.arr_in h.1 c 2 rfl).trans ((A_eq m c 2).trans (V_main_arg5 m c))⟩) (run_main_quiescent m ρ)

/-- The frame: every run ends, the arguments are unchanged and every counter is zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Body

end
-- ==== Proof.KernelIdeal.Run.lean ====
module

public import proofs.«01_k».proof.Proof.Gen.KernelIdeal.Frame
public import proofs.«01_k».proof.Proof.Gen.KernelIdeal.Skeleton
public import Idealize.ShloMosaic.Lib.Tactic
public import Idealize.ShloMosaic.Lib.Ring
public import Idealize.ShloMosaic.Lib.WordCmp
public import Idealize.ShloMosaic.Lib.Pipeline.FrameBody

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch, over the point's coordinates: both are 0. -/
abbrev cond (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 4000000 in
/-- The body run once, on any whole memrefs, at a point of the grid where both coordinates are 0, so that the two buffers are initialised first: what its stores leave in the output block, in the key
    buffer and in the value buffer, as pieces written last first, found by the run. `k0` and `v0` are what the two buffers held before. -/
noncomputable def runA (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    { L : List (View.Piece (Elt F) S1x256x1024 .bf16) × List (View.Piece (Elt F) S4x9216x128 .fp8e4m3) × List (View.Piece (Elt F) S4x80x9216 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare k0 ∗ owns (c : Thread nD τ) arg10 fullShare v0 ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (arg9.view.loc (c : Thread nD τ) ↦[arg9.view.set]{fullShare} arg9.view.writes (Elt F) (harg9.unread k0) L.2.1) ∗ (arg10.view.loc (c : Thread nD τ) ↦[arg10.view.set]{fullShare} arg10.view.writes (Elt F) (harg10.unread v0) L.2.2) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fk, %hfk, HK⟩, ⟨%fv, %hfv, HV⟩, ⟨%d7, %f7, -, HS⟩, ⟨%d8, %f8, -, HT⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfk; obtain rfl := harg10.eq_unread hfv
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HK]
    · iexact HK
    isplitl [HV]
    · iexact HV
    isplitl [HS]
    · iexists _, _; isplitr; swap; · iexact HS
      ipureintro; rfl
    iexists _, _; isplitr; swap; · iexact HT
    ipureintro; rfl

set_option maxHeartbeats 4000000 in
/-- The body run once, on any whole memrefs, at a point of the grid other than the first: what its stores leave in the output block, in the key
    buffer and in the value buffer, as pieces written last first, found by the run. `k0` and `v0` are what the two buffers held before. -/
noncomputable def runB (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : ¬cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    { L : List (View.Piece (Elt F) S1x256x1024 .bf16) × List (View.Piece (Elt F) S4x9216x128 .fp8e4m3) × List (View.Piece (Elt F) S4x80x9216 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare k0 ∗ owns (c : Thread nD τ) arg10 fullShare v0 ∗ (∃ d, owns (c : Thread nD τ) arg11 fullShare d) ∗ (∃ d, owns (c : Thread nD τ) arg12 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.1) ∗ (arg9.view.loc (c : Thread nD τ) ↦[arg9.view.set]{fullShare} arg9.view.writes (Elt F) (harg9.unread k0) L.2.1) ∗ (arg10.view.loc (c : Thread nD τ) ↦[arg10.view.set]{fullShare} arg10.view.writes (Elt F) (harg10.unread v0) L.2.2) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨⟨?_, ?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fk, %hfk, HK⟩, ⟨%fv, %hfv, HV⟩, ⟨%d7, %f7, -, HS⟩, ⟨%d8, %f8, -, HT⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfk; obtain rfl := harg10.eq_unread hfv
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [HK]
    · iexact HK
    isplitl [HV]
    · iexact HV
    isplitl [HS]
    · iexists _, _; isplitr; swap; · iexact HS
      ipureintro; rfl
    iexists _, _; isplitr; swap; · iexact HT
    ipureintro; rfl

end Cert.KernelIdeal.Body

end
-- ==== Proof.KernelIdeal.At.lean ====
module

public import proofs.«01_k».proof.Proof.KernelIdeal.Run
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The memrefs the body is called with at a point: each window's current buffer, and the four scratch buffers whole. -/

abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .smem S4 .f32 := win0_1.stage (cfg0.slots t 1)
abbrev hs1 (t : Fin cfg0.N) : (ms1 t).IsWhole := hstage0_1 ((cfg0.slots t 1).cast nbuf0_1)
abbrev ms2 (t : Fin cfg0.N) : Memref sig .tc .smem S4 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .fp8e4m3 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x256 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x256 .fp8e4m3 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x1024 .bf16 := win0_6.stage (cfg0.slots t 6)
abbrev hs6 (t : Fin cfg0.N) : (ms6 t).IsWhole := hstage0_6 ((cfg0.slots t 6).cast nbuf0_6)
abbrev sc0 : Memref sig .tc .vmem S4x9216x128 .fp8e4m3 := Memref.whole cc0_scratch0
abbrev sc1 : Memref sig .tc .vmem S4x80x9216 .bf16 := Memref.whole cc0_scratch1
abbrev sc2 : Memref sig .tc .vmem S1088x256 .f32 := Memref.whole cc0_scratch2
abbrev sc3 : Memref sig .tc .vmem S1088x256 .f32 := Memref.whole cc0_scratch3

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The body's table at a point is the body as the points' module spells it. -/
theorem defs₀_row (t : Fin cfg0.N) :
    defs₀ (F := F) .tc cfg0.body (cfg0.bodyArgs t (cfg0.slots t)) = bodyAt0 t := by
  unfold defs₀; rw [Defs.onTc_tc]

/-- What the body's stores leave at point `t`, whichever case the point is in. -/
def left (c : Dev nD) (t : Fin cfg0.N) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    List (View.Piece (Elt F) S1x256x1024 .bf16) × List (View.Piece (Elt F) S4x9216x128 .fp8e4m3) × List (View.Piece (Elt F) S4x80x9216 .bf16) :=
  if hc : cond (grid0.coords t) then (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 else (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1

/-- The body at point `t`: given the inputs' blocks and what the two buffers held, it ends with the pieces `left` written. -/
theorem run_at (c : Dev nD) (t : Fin cfg0.N) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) (E : Set ℕ) (K : PUnit → sProp 𝕄) :
    iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ d, owns (c : Thread nD τ) (ms6 t) fullShare d) ∗ owns (c : Thread nD τ) sc0 fullShare k0 ∗ owns (c : Thread nD τ) sc1 fullShare v0 ∗ (∃ d, owns (c : Thread nD τ) sc2 fullShare d) ∗ (∃ d, owns (c : Thread nD τ) sc3 fullShare d)
      ∗ (iprop(owns (c : Thread nD τ) (ms0 t) fullShare x0 ∗ owns (c : Thread nD τ) (ms1 t) fullShare x1 ∗ owns (c : Thread nD τ) (ms2 t) fullShare x2 ∗ owns (c : Thread nD τ) (ms3 t) fullShare x3 ∗ owns (c : Thread nD τ) (ms4 t) fullShare x4 ∗ owns (c : Thread nD τ) (ms5 t) fullShare x5 ∗ (∃ f, (ms6 t).view.loc (c : Thread nD τ) ↦[(ms6 t).view.set]{fullShare} (ms6 t).view.writes (Elt F) f (left c t x0 x1 x2 x3 x4 x5 k0 v0).1) ∗ (sc0.view.loc (c : Thread nD τ) ↦[sc0.view.set]{fullShare} sc0.view.writes (Elt F) ((Memref.isWhole_whole cc0_scratch0).unread k0) (left c t x0 x1 x2 x3 x4 x5 k0 v0).2.1) ∗ (sc1.view.loc (c : Thread nD τ) ↦[sc1.view.set]{fullShare} sc1.view.writes (Elt F) ((Memref.isWhole_whole cc0_scratch1).unread v0) (left c t x0 x1 x2 x3 x4 x5 k0 v0).2.2) ∗ (∃ d, owns (c : Thread nD τ) sc2 fullShare d) ∗ (∃ d, owns (c : Thread nD τ) sc3 fullShare d)) -∗ K ⟨⟩))
      ⊢ wp frame (wpE (defs₀ (F := F)) Variants.none c none) E (bodyAt0 t) K := by
  unfold left bodyAt0
  split
  · exact (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) _ x0 x1 x2 x3 x4 x5 k0 v0).2 E K
  · exact (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) _ x0 x1 x2 x3 x4 x5 k0 v0).2 E K

end Cert.KernelIdeal.Body

end
-- ==== Proof.KernelIdeal.Frame.lean ====
module

public import proofs.«01_k».proof.Proof.KernelIdeal.At

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one window of which nothing is said here: the output's. -/
def forgets : Fin 7 → Bool := fun w => w.val == 6

/-- The proof data of the pipeline when nothing is said of the output: the inputs' buffers at their blocks, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t)
    ∗ (∃ d, owns (c : Thread nD τ) (ms6 t) fullShare d))

set_option maxHeartbeats 3200000 in
/-- The body at any point keeps the inputs' blocks and returns the output's buffer and the scratch at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq,
    after0, after1, after2, after3, after4, after5]
  iintro ⟨⟨⟨⟨%k0, HK⟩, ⟨%v0, HV⟩, HS, HT⟩, Hg⟩, Ho, ⟨%d0, H0⟩, ⟨%d1, H1⟩, ⟨%d2, H2⟩, ⟨%d3, H3⟩, ⟨%d4, H4⟩, ⟨%d5, H5⟩, H6⟩
  iapply (run_at c t (iblk m c 0 t) (iblk m c 1 t) (iblk m c 2 t) (iblk m c 3 t) (iblk m c 4 t) (iblk m c 5 t) k0 v0 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HK]; · iexact HK
  isplitl [HV]; · iexact HV
  isplitl [HS]; · iexact HS
  isplitl [HT]; · iexact HT
  iintro ⟨H0, H1, H2, H3, H4, H5, ⟨%e6, H6⟩, HK, HV, HS, HT⟩
  isplitl [HK HV HS HT Hg]
  · isplitl [HK HV HS HT]
    · isplitl [HK]
      · unfold owns; iexists _, _; isplitr; swap; · iexact HK
        ipureintro; rfl
      isplitl [HV]
      · unfold owns; iexists _, _; isplitr; swap; · iexact HV
        ipureintro; rfl
      isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _, _; isplitr; swap; · iexact H6
  ipureintro; rfl

/-- The library's body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every run ends with the inputs' arrays as they were, and every counter at zero. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments end unchanged. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h.1 c 3 rfl).trans ((A_eq m c 3).trans (V_main_arg0 m c)),
    (Pipeline.RDat.FramePost.arr_in h.1 c 4 rfl).trans ((A_eq m c 4).trans (V_main_arg1 m c)),
    (Pipeline.RDat.FramePost.arr_in h.1 c 5 rfl).trans ((A_eq m c 5).trans (V_main_arg2 m c)),
    (Pipeline.RDat.FramePost.arr_in h.1 c 0 rfl).trans ((A_eq m c 0).trans (V_main_arg3 m c)),
    (Pipeline.RDat.FramePost.arr_in h.1 c 1 rfl).trans ((A_eq m c 1).trans (V_main_arg4 m c)),
    (Pipeline.RDat.FramePost.arr_in h.1 c 2 rfl).trans ((A_eq m c 2).trans (V_main_arg5 m c))⟩) (run_main_quiescent m ρ)

/-- The frame: every run ends, the arguments are unchanged and every counter is zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.KernelIdeal.Unit.lean ====
module

public import proofs.«01_k».proof.Proof.KernelIdeal.Run

@[expose] public section

set_option maxRecDepth 16384

noncomputable section

/-! The work on one block of 64 queries and one group of heads, written once as functions of the vectors it reads. -/

namespace Cert.KernelIdeal.Body

open Cert.KernelIdeal.Gen
open Idealize.ShloMosaic Idealize.ShloMosaic.TcCoe Idealize.SL.Sem

variable {F : FTy → Type} [FloatOps F] [Named F]

/-- The head of each of the 256 columns: column number divided by 64, rounded down. -/
def colh : IVec S1x256 32 :=
  let v61 : IVec S1x256 32 := iota .tc S1x256 32 [1] iota_S1x256_d1_w32
  let v63 : IVec S1x256 32 := divsi v61 (broadcast S1x256 64#32)
  let v66 : IVec S1x256 32 := extui 32 (cmpi .sgt v61 (broadcast S1x256 0#32)) natLt_1_32
  let v69 : IVec S1x256 32 := extui 32 (cmpi .slt v61 (broadcast S1x256 0#32)) natLt_1_32
  let v70 : IVec S1x256 32 := subi v66 v69
  let v75 : BitVec 32 := Scalar.subi (Scalar.extui (Scalar.cmpi .sgt 64#32 0#32)) (Scalar.extui (Scalar.cmpi .slt 64#32 0#32))
  let v77 : IVec S1x256 1 := cmpi .ne v70 (broadcast S1x256 v75)
  let v79 : IVec S1x256 32 := remsi v61 (broadcast S1x256 64#32)
  let v81 : IVec S1x256 1 := cmpi .ne v79 (broadcast S1x256 0#32)
  select (andi v77 v81) (subi v63 (broadcast S1x256 1#32)) v63

/-- The scale of each column: the scale of its head. -/
def scales (q0 q1 q2 q3 kk : F .f32) : FVec F S1x256 .f32 :=
  let z : FVec F S1x256 .f32 := broadcast S1x256 (Scalar.ofBits .f32 0x00000000#32)
  let e : F .f32 := Scalar.ofBits .f32 0x3E000000#32
  let w0 : FVec F S1x256 .f32 := select (cmpi .eq colh (broadcast S1x256 0#32)) (broadcast S1x256 (Scalar.mulf (Scalar.mulf q0 kk) e)) z
  let w1 : FVec F S1x256 .f32 := select (cmpi .eq colh (broadcast S1x256 1#32)) (broadcast S1x256 (Scalar.mulf (Scalar.mulf q1 kk) e)) w0
  let w2 : FVec F S1x256 .f32 := select (cmpi .eq colh (broadcast S1x256 2#32)) (broadcast S1x256 (Scalar.mulf (Scalar.mulf q2 kk) e)) w1
  select (cmpi .eq colh (broadcast S1x256 3#32)) (broadcast S1x256 (Scalar.mulf (Scalar.mulf q3 kk) e)) w2

/-- One head's queries beside 64 zero lanes: on the left for an odd group, on the right for an even one. -/
def lanes (odd : Bool) (xh : FVec F S64x64 .bf16) : FVec F S64x128 .bf16 :=
  let z : FVec F S64x64 .bf16 := broadcast S64x64 (Scalar.ofBits .bf16 0x0000#16)
  match odd with
  | false => concatenate S64x128 1 [⟨S64x64, xh⟩, ⟨S64x64, z⟩] concatenates_S64x64_S64x64_S64x128_d1
  | true => concatenate S64x128 1 [⟨S64x64, z⟩, ⟨S64x64, xh⟩] concatenates_S64x64_S64x64_S64x128_d1

/-- The four heads' queries under one another. -/
def rows (odd : Bool) (x : Vec F S1x64x256 .fp8e4m3) : FVec F S256x128 .fp8e4m3 :=
  let xt : FVec F S64x256 .bf16 := extf .bf16 (shapeCast S64x256 x shapeCasts_S1x64x256_S64x256) bitsLt_fp8e4m3_bf16
  truncf .fp8e4m3 (concatenate S256x128 0 [⟨S64x128, lanes odd (extractStridedSlice S64x64 ![0, 0] xt slices_S64x256_o0_0_S64x64)⟩,
    ⟨S64x128, lanes odd (extractStridedSlice S64x64 ![0, 64] xt slices_S64x256_o0_64_S64x64)⟩,
    ⟨S64x128, lanes odd (extractStridedSlice S64x64 ![0, 128] xt slices_S64x256_o0_128_S64x64)⟩,
    ⟨S64x128, lanes odd (extractStridedSlice S64x64 ![0, 192] xt slices_S64x256_o0_192_S64x64)⟩] concatenates_S64x128_S64x128_S64x128_S64x128_S256x128_d0) bitsLt_fp8e4m3_bf16

/-- Which of the 1088 keys (down) each of the 256 columns' queries sees, for the query block that starts at `b`. -/
def mask (b : BitVec 32) : IVec S1088x256 1 :=
  let v142 : IVec S1088x256 32 := iota .tc S1088x256 32 [1] iota_S1088x256_d1_w32
  let v144 : BitVec 32 := Scalar.select (Scalar.cmpi .eq 64#32 0#32) 1#32 64#32
  let v146 : IVec S1088x256 32 := remsi v142 (broadcast S1088x256 v144)
  let v148 : IVec S1088x256 1 := cmpi .ne v146 (broadcast S1088x256 0#32)
  let v150 : IVec S1088x256 1 := cmpi .slt v146 (broadcast S1088x256 0#32)
  let v153 : IVec S1088x256 1 := broadcastTo S1088x256 (broadcast S1088x256 (Scalar.cmpi .slt v144 0#32)) broadcasts_S1088x256_S1088x256
  let v155 : IVec S1088x256 1 := andi (xori v150 v153) v148
  let v158 : IVec S1088x256 32 := select v155 (addi v146 (broadcast S1088x256 v144)) v146
  let v160 : IVec S1088x256 32 := addi (broadcast S1088x256 b) v158
  let v163 : IVec S1088x256 32 := iota .tc S1088x256 32 [0] iota_S1088x256_d0_w32
  let v165 : IVec S1088x256 32 := addi (broadcast S1088x256 (Scalar.subi b 1024#32)) v163
  let v166 : IVec S1088x256 1 := cmpi .sle v165 v160
  let v169 : IVec S1088x256 1 := cmpi .sgt v165 (subi v160 (broadcast S1088x256 1000#32))
  andi (andi v166 v169) (cmpi .sge v165 (broadcast S1088x256 0#32))

/-- The masked and scaled scores. -/
def score (odd : Bool) (b : BitVec 32) (k : Vec F S1x1088x128 .fp8e4m3) (x : Vec F S1x64x256 .fp8e4m3) (q0 q1 q2 q3 kk : F .f32) : FVec F S1088x256 .f32 :=
  let d : FVec F S1088x256 .f32 := matmul dot_S1088x128_S256x128_S1088x256_1_1_0_0_n_n none (shapeCast S1088x128 k shapeCasts_S1x1088x128_S1088x128) (rows odd x) (constant S1088x256 .f32 0x00000000#32)
  select (mask b) (mulf d (broadcastTo S1088x256 (scales q0 q1 q2 q3 kk) broadcasts_S1x256_S1088x256)) (broadcast S1088x256 (Named.named κ "mask" 0xF149F2CA#32))

/-- The largest score of each column. -/
def top (s : FVec F S1088x256 .f32) : FVec F S1x256 .f32 :=
  shapeCast S1x256 (multiReduction .maximumf [0] S256 s 0xFF800000#32 reduces_S1088x256_S256 (.inl rfl) rfl) shapeCasts_S256_S1x256

/-- The weights before division, with 64 rows of zeros above (`up`) or below. -/
def weights (up : Bool) (s : FVec F S1088x256 .f32) (m : FVec F S1x256 .f32) : FVec F S1152x256 .bf16 :=
  let p : FVec F S1088x256 .bf16 := truncf .bf16 (exp2 (mulf (subf s (broadcastTo S1088x256 m broadcasts_S1x256_S1088x256)) (broadcast S1088x256 (Named.named κ "log2e" 0x3FB8AA3B#32)))) bitsLt_bf16_f32
  let z : FVec F S64x256 .bf16 := broadcast S64x256 (Scalar.ofBits .bf16 0x0000#16)
  match up with
  | false => concatenate S1152x256 0 [⟨S1088x256, p⟩, ⟨S64x256, z⟩] concatenates_S1088x256_S64x256_S1152x256_d0
  | true => concatenate S1152x256 0 [⟨S64x256, z⟩, ⟨S1088x256, p⟩] concatenates_S64x256_S1088x256_S1152x256_d0

/-- The weighted sum of the values, divided by the sum of the weights and scaled. -/
def attend (p : FVec F S1152x256 .bf16) (v : Vec F S1x80x1152 .bf16) (vs : F .f32) : FVec F S64x256 .bf16 :=
  let o : FVec F S80x256 .f32 := matmul dot_S80x1152_S1152x256_S80x256_1_0_0_1_n_n none (shapeCast S80x1152 v shapeCasts_S1x80x1152_S80x1152) p (constant S80x256 .f32 0x00000000#32)
  truncf .bf16 (mulf (extractStridedSlice S64x256 ![0, 0] o slices_S80x256_o0_0_S64x256)
    (broadcastTo S64x256 (divf (broadcast S1x256 vs) (extractStridedSlice S1x256 ![64, 0] o slices_S80x256_o64_0_S1x256)) broadcasts_S1x256_S64x256)) bitsLt_bf16_f32

/-- Two heads of the result, side by side, as stored: heads 0 and 1, or (`snd`) heads 2 and 3. -/
def pair (snd : Bool) (o : FVec F S64x256 .bf16) : FVec F S1x64x128 .bf16 :=
  match snd with
  | false => shapeCast S1x64x128 (transpose S64x128 [1, 0] (concatenate S128x64 0 [⟨S64x64, extractStridedSlice S64x64 ![0, 0] o slices_S64x256_o0_0_S64x64⟩, ⟨S64x64, extractStridedSlice S64x64 ![0, 64] o slices_S64x256_o0_64_S64x64⟩] concatenates_S64x64_S64x64_S128x64_d0) transposes_S128x64_p1_0_S64x128) shapeCasts_S64x128_S1x64x128
  | true => shapeCast S1x64x128 (transpose S64x128 [1, 0] (concatenate S128x64 0 [⟨S64x64, extractStridedSlice S64x64 ![0, 128] o slices_S64x256_o0_128_S64x64⟩, ⟨S64x64, extractStridedSlice S64x64 ![0, 192] o slices_S64x256_o0_192_S64x64⟩] concatenates_S64x64_S64x64_S128x64_d0) transposes_S128x64_p1_0_S64x128) shapeCasts_S64x128_S1x64x128

/-- The whole work on one block of queries and one group. `s` is the scores as read back from the scratch buffer. -/
def unit (odd up snd : Bool) (b : BitVec 32) (k : Vec F S1x1088x128 .fp8e4m3) (x : Vec F S1x64x256 .fp8e4m3) (q0 q1 q2 q3 kk : F .f32) (s : FVec F S1088x256 .f32) (v : Vec F S1x80x1152 .bf16) (vs : F .f32) : FVec F S1x64x128 .bf16 :=
  pair snd (attend (weights up s (top (score odd b k x q0 q1 q2 q3 kk))) v vs)

end Cert.KernelIdeal.Body

end
-- ==== Proof.KernelIdeal.Piece.lean ====
module

public import proofs.«01_k».proof.Proof.KernelIdeal.Unit
public import Idealize.ShloMosaic.Lib.Pointwise
public import Idealize.ShloMosaic.Lib.VecWindow
public import Idealize.ShloMosaic.Lib.WholeRead

@[expose] public section

set_option maxRecDepth 1000000

noncomputable section

/-! What one stored piece of the output block is, and reads through windows at known offsets. -/

namespace Cert.KernelIdeal.Body

open Cert.KernelIdeal.Gen
open Idealize.ShloMosaic Idealize.ShloMosaic.TcCoe Idealize.SL.Sem

variable {F : FTy → Type} [FloatOps F] [Named F]

/-- The first absolute row of block `t` of 64 queries at chunk `j`, as the word the body computes. -/
def base (i : grid0.Coords) (t : ℕ) : BitVec 32 := Scalar.addi (Scalar.muli (BitVec.ofNat 32 (i 1).val) 256#32) (BitVec.ofNat 32 (64 * t))

/-- `p` is the stored piece of group `g`, query block `t` and head pair `snd`: `unit` of the 64 rows of queries, of the 1088 keys and of the 1152 value columns that block reads. `K` and `V` are the key and
    the value buffer at that time. -/
def IsUnit (i : grid0.Coords) (x0 : Vec F S16 .f32) (x1 x2 : Vec F S4 .f32) (x3 : Vec F S1x256x1024 .fp8e4m3) (K : Vec F S4x9216x128 .fp8e4m3) (V : Vec F S4x80x9216 .bf16) (u : ℕ × ℕ × Bool) (p : View.Piece (Elt F) S1x256x1024 .bf16) : Prop :=
  ∃ (h : ∀ a, (![0, 64 * u.1, 256 * u.2.1 + 128 * u.2.2.toNat] : Fin 3 → ℕ) a + S1x64x128.size a ≤ S1x256x1024.size a) (b : BitVec 32) (k : Vec F S1x1088x128 .fp8e4m3) (x : Vec F S1x64x256 .fp8e4m3) (q0 q1 q2 q3 kk : F .f32) (s : FVec F S1088x256 .f32) (v : Vec F S1x80x1152 .bf16) (vs : F .f32),
    p = ⟨Rect.unit ![0, 64 * u.1, 256 * u.2.1 + 128 * u.2.2.toNat] S1x64x128.size h, unit (u.2.1 % 2 == 1) (u.1 % 2 == 1) u.2.2 b k x q0 q1 q2 q3 kk s v vs⟩
    ∧ s = score (u.2.1 % 2 == 1) b k x q0 q1 q2 q3 kk
    ∧ b = base i u.1
    ∧ (∀ (r : Fin 1088) (l : Fin 128), k (ix3 0 r l) = K (ix3 (Fin.ofNat 4 u.2.1) (Fin.ofNat 9216 (256 * (i 1).val + 64 * u.1 + r)) l))
    ∧ (∀ (r : Fin 64) (l : Fin 256), x (ix3 0 r l) = x3 (ix3 0 (Fin.ofNat 256 (64 * u.1 + r)) (Fin.ofNat 1024 (256 * u.2.1 + l))))
    ∧ (∀ (d : Fin 80) (r : Fin 1152), v (ix3 0 d r) = V (ix3 (Fin.ofNat 4 u.2.1) d (Fin.ofNat 9216 (256 * (i 1).val + 128 * (u.1 / 2) + r))))
    ∧ q0 = x0 (ix1 (Fin.ofNat 16 (4 * u.2.1))) ∧ q1 = x0 (ix1 (Fin.ofNat 16 (4 * u.2.1 + 1))) ∧ q2 = x0 (ix1 (Fin.ofNat 16 (4 * u.2.1 + 2))) ∧ q3 = x0 (ix1 (Fin.ofNat 16 (4 * u.2.1 + 3)))
    ∧ kk = x1 (ix1 (Fin.ofNat 4 u.2.1)) ∧ vs = x2 (ix1 (Fin.ofNat 4 u.2.1))

/-- The units of one run of the body in the order their pieces are listed, the last stored first: query block, group, head pair. -/
def order : List (ℕ × ℕ × Bool) := [(3, 3, true), (3, 3, false), (3, 2, true), (3, 2, false), (3, 1, true), (3, 1, false), (3, 0, true), (3, 0, false), (2, 3, true), (2, 3, false), (2, 2, true), (2, 2, false), (2, 1, true), (2, 1, false), (2, 0, true), (2, 0, false), (1, 3, true), (1, 3, false), (1, 2, true), (1, 2, false), (1, 1, true), (1, 1, false), (1, 0, true), (1, 0, false), (0, 3, true), (0, 3, false), (0, 2, true), (0, 2, false), (0, 1, true), (0, 1, false), (0, 0, true), (0, 0, false)]

/-- The elements of a window at a known offset, read at the index they have in the whole buffer. -/
theorem window_at {e : EltTy} {n0 n1 n2 m0 m1 m2 : ℕ} (X : (⟨3, ![n0, n1, n2]⟩ : Shape).Idx → Elt F e) (off : Fin 3 → ℕ) (o0 o1 o2 : ℕ) (ho : off = ![o0, o1, o2])
    (inb : ∀ a, off a + (⟨3, ![m0, m1, m2]⟩ : Shape).size a ≤ (⟨3, ![n0, n1, n2]⟩ : Shape).size a) (a : Fin m0) (b : Fin m1) (c : Fin m2) (a' : Fin n0) (b' : Fin n1) (c' : Fin n2)
    (ha : a'.val = o0 + a.val) (hb : b'.val = o1 + b.val) (hc : c'.val = o2 + c.val) :
    X ((Rect.unit (s := ⟨3, ![n0, n1, n2]⟩) off (⟨3, ![m0, m1, m2]⟩ : Shape).size inb).toLoadRect.idx (ix3 a b c)) = X (ix3 a' b' c') := by
  subst ho
  refine congrArg X (funext fun d => Fin.ext ?_)
  fin_cases d
  · simpa [ix3, Rect.unit] using ha.symm
  · simpa [ix3, Rect.unit] using hb.symm
  · simpa [ix3, Rect.unit] using hc.symm

/-- The one element of a window of one element, read at the index it has in the whole array. -/
theorem scalar_at {e : EltTy} {n : ℕ} (X : (⟨1, ![n]⟩ : Shape).Idx → Elt F e) (o : ℕ) (inb : ∀ a, (![o] : Fin 1 → ℕ) a + S1.size a ≤ (⟨1, ![n]⟩ : Shape).size a) (h) (a' : Fin n) (ha : a'.val = o) :
    X ((Rect.unit (s := ⟨1, ![n]⟩) ![o] S1.size inb).toLoadRect.idx (Shape.Idx.first (s := S1) h)) = X (ix1 a') := by
  refine congrArg X (funext fun d => Fin.ext ?_)
  fin_cases d
  simpa [ix1, Rect.unit, Shape.Idx.first] using ha.symm

end Cert.KernelIdeal.Body

end
-- ==== Proof.KernelIdeal.UnitVal.lean ====
module

public import proofs.«01_k».proof.Proof.KernelIdeal.Unit
public import Idealize.ShloMosaic.Lib.Pointwise
public import Idealize.ShloMosaic.Lib.Pipeline.ValueKit
public import Idealize.ShloMosaic.Lib.WordCmp

@[expose] public section

set_option maxRecDepth 16384

noncomputable section

/-! The stages of the work on one block of queries, read at an index, over the extended reals. -/

namespace Cert.KernelIdeal.Body

open Cert.KernelIdeal.Gen
open Idealize.ShloMosaic Idealize.ShloMosaic.TcCoe Idealize.SL.Sem

/-- Two heads laid side by side, at an index. -/
theorem pair_at (snd : Bool) (o : FVec Ideal S64x256 .bf16) (q : Fin 64) (l : Fin 128) :
    pair snd o (ix3 0 q l) = o (ix2 (⟨l.val % 64, by omega⟩ : Fin 64) (⟨64 * (2 * snd.toNat + l.val / 64) + q.val, by cases snd <;> simp <;> omega⟩ : Fin 256)) := by
  cases snd
  · pointwise [pair]
    split
    all_goals
      refine congrArg o ?_
      congr 1 <;> apply Fin.ext <;> simp <;> omega
  · pointwise [pair]
    split
    all_goals
      refine congrArg o ?_
      congr 1 <;> apply Fin.ext <;> simp <;> omega

/-- The weighted sum of the values, scaled and divided by the sum of the weights, at an index. -/
theorem attend_at (p : FVec Ideal S1152x256 .bf16) (v : Vec Ideal S1x80x1152 .bf16) (vs : Ideal .f32) (d : Fin 64) (c : Fin 256) :
    attend p v vs (ix2 d c) = (∑ r : Fin 1152, v (ix3 0 (⟨d.val, by omega⟩ : Fin 80) r) * p (ix2 r c)) * Ideal.div vs (∑ r : Fin 1152, v (ix3 0 (64 : Fin 80) r) * p (ix2 r c)) := by
  pointwise [attend]

/-- The weights, shifted by 64 rows or not and padded with zeros, at an index. -/
theorem weights_at (up : Bool) (s : FVec Ideal S1088x256 .f32) (m : FVec Ideal S1x256 .f32) (r : Fin 1152) (c : Fin 256) :
    weights up s m (ix2 r c) = if h : 64 * up.toNat ≤ r.val ∧ r.val < 1088 + 64 * up.toNat then
      FloatOps.exp2 (F := Ideal) (φ := .f32) ((s (ix2 ⟨r.val - 64 * up.toNat, by omega⟩ c) - m (ix2 0 c)) * ((((Real.log 2)⁻¹ : ℝ) : EReal))) else 0 := by
  cases up
  · pointwise [weights]
    split
    · rw [dif_pos (by simp; omega)]; rfl
    · rw [dif_neg (by simp; omega)]
  · pointwise [weights]
    split
    · rw [dif_neg (by simp; omega)]
    · rw [dif_pos (by simp; omega)]; rfl

/-- The largest score of a column. -/
theorem top_at (s : FVec Ideal S1088x256 .f32) (c : Fin 256) :
    top s (ix2 0 c) = Finset.univ.fold max ⊥ fun r : Fin 1088 => s (ix2 r c) := by
  pointwise [top]
  have : Ideal.ofBits FTy.f32 4286578688#32 = (⊥ : EReal) := by simp [Ideal.ofBits, Ideal.ieee]
  rw [this]

/-- The queries, one row for each head and query, padded to 128 lanes with zeros, at an index. -/
theorem rows_at (odd : Bool) (x : Vec Ideal S1x64x256 .fp8e4m3) (c : Fin 256) (l : Fin 128) :
    rows odd x (ix2 c l) = if l.val / 64 = odd.toNat then x (ix3 0 (⟨c.val % 64, by omega⟩ : Fin 64) (⟨64 * (c.val / 64) + l.val % 64, by omega⟩ : Fin 256)) else 0 := by
  have e : ∀ (a a' : Fin 64) (b b' : Fin 256), a.val = a'.val → b.val = b'.val → x (ix3 0 a b) = x (ix3 0 a' b') := fun a a' b b' h1 h2 => by rw [Fin.ext h1, Fin.ext h2]
  by_cases hl : l.val / 64 = odd.toNat
  · rw [if_pos hl]
    cases odd <;> simp only [Bool.toNat_false, Bool.toNat_true] at hl <;> pointwise [rows, lanes] <;> split_ifs <;> first | (refine e _ _ _ _ ?_ ?_ <;> dsimp only <;> omega) | (exfalso; omega)
  · rw [if_neg hl]
    cases odd <;> simp only [Bool.toNat_false, Bool.toNat_true] at hl <;> pointwise [rows, lanes] <;> split_ifs <;> first | rfl | (exfalso; omega)

/-- The head of a column. -/
theorem colh_at (c : Fin 256) : colh (ix2 0 c) = BitVec.ofNat 32 (c.val / 64) := by
  pointwise [colh]
  revert c
  decide +kernel

/-- A select on a decided proposition is an `if`. -/
theorem select_ofBool {α : Type} (p : Prop) [Decidable p] (x y : α) : Scalar.select (BitVec.ofBool (decide p)) x y = if p then x else y := by
  by_cases h : p <;> simp [h, Scalar.select]

/-- The score scale of a column. -/
theorem scales_at (q0 q1 q2 q3 kk : Ideal .f32) (c : Fin 256) :
    scales q0 q1 q2 q3 kk (ix2 0 c) = (![q0, q1, q2, q3] : Fin 4 → EReal) ⟨c.val / 64, by omega⟩ * kk * Ideal.ofBits .f32 0x3E000000#32 := by
  pointwise [scales]
  rw [colh_at]
  obtain ⟨h, hh⟩ : ∃ h : Fin 4, c.val / 64 = h.val := ⟨⟨c.val / 64, by omega⟩, rfl⟩
  have e : (⟨c.val / 64, by omega⟩ : Fin 4) = h := Fin.ext hh
  rw [e, hh]
  fin_cases h <;> rfl

/-- Which keys, counted from 1024 before the block's first query, the block's query in column `c` sees. -/
abbrev sees (B : ℕ) (r c : ℕ) : Prop := r ≤ 1024 + c % 64 ∧ 24 + c % 64 < r ∧ 1024 ≤ B + r

/-- The mask at an index: whether the query of the column sees the key of the row. -/
theorem mask_at (B : ℕ) (hB : B < 8192) (r : Fin 1088) (c : Fin 256) :
    mask (BitVec.ofNat 32 B) (ix2 r c) = BitVec.ofBool (decide (sees B r.val c.val)) := by
  pointwise [mask]
  have e : ∀ c : Fin 256, IntOp.remsi ArithUnit.vector (BitVec.ofNat 32 c.val) 64#32 = BitVec.ofNat 32 (c.val % 64) := by decide +kernel
  have e2 : Scalar.select (Scalar.cmpi CmpIPredicate.eq 64#32 0#32) 1#32 64#32 = 64#32 := by decide
  have e3 : ∀ c : Fin 256, (Scalar.select (IntOp.andi (IntOp.xori (IntOp.cmpi CmpIPredicate.slt (BitVec.ofNat 32 (c.val % 64)) 0#32) (Scalar.cmpi CmpIPredicate.slt 64#32 0#32))
      (IntOp.cmpi CmpIPredicate.ne (BitVec.ofNat 32 (c.val % 64)) 0#32)) (IntOp.addi (BitVec.ofNat 32 (c.val % 64)) 64#32) (BitVec.ofNat 32 (c.val % 64))) = BitVec.ofNat 32 (c.val % 64) := by decide +kernel
  rw [e2, e c, e3 c]
  have hr := r.isLt
  have hc := c.isLt
  have iB : (BitVec.ofNat 32 B).toInt = (B : ℤ) := WordCmp.toInt_ofNat_of_lt (by omega)
  have ir : (BitVec.ofNat 32 r.val).toInt = (r.val : ℤ) := WordCmp.toInt_ofNat_of_lt (by omega)
  have ic : (BitVec.ofNat 32 (c.val % 64)).toInt = ((c.val % 64 : ℕ) : ℤ) := WordCmp.toInt_ofNat_of_lt (by omega)
  have i1 : (1024#32 : BitVec 32).toInt = 1024 := by decide
  have i2 : (1000#32 : BitVec 32).toInt = 1000 := by decide
  have hs : (Scalar.subi (BitVec.ofNat 32 B) 1024#32).toInt = (B : ℤ) - 1024 := by
    refine BitVec.toInt_sub.trans ?_
    rw [iB, i1, Int.bmod_def]; omega
  have h1 : (IntOp.addi (Scalar.subi (BitVec.ofNat 32 B) 1024#32) (BitVec.ofNat 32 r.val)).toInt = (B : ℤ) - 1024 + r.val := by
    refine (BitVec.toInt_add _ _).trans ?_
    rw [hs, ir, Int.bmod_def]; omega
  have h2 : (IntOp.addi (BitVec.ofNat 32 B) (BitVec.ofNat 32 (c.val % 64))).toInt = (B : ℤ) + (c.val % 64 : ℕ) := by
    have : IntOp.addi (BitVec.ofNat 32 B) (BitVec.ofNat 32 (c.val % 64)) = BitVec.ofNat 32 (B + c.val % 64) := (BitVec.ofNat_add _ _).symm
    rw [this, WordCmp.toInt_ofNat_of_lt (by omega)]; push_cast; rfl
  have h3 : (IntOp.subi (IntOp.addi (BitVec.ofNat 32 B) (BitVec.ofNat 32 (c.val % 64))) 1000#32).toInt = (B : ℤ) + (c.val % 64 : ℕ) - 1000 := by
    refine BitVec.toInt_sub.trans ?_
    rw [h2, i2, Int.bmod_def]; omega
  have h0 : (0#32 : BitVec 32).toInt = 0 := by decide
  rw [WordCmp.cmpi_sle_eq, WordCmp.cmpi_sgt_eq, WordCmp.cmpi_sge_eq, h1, h2, h3, h0, WordCmp.andi_ofBool, WordCmp.andi_ofBool]
  congr 1
  rw [Bool.eq_iff_iff]
  simp only [Bool.and_eq_true, decide_eq_true_eq, sees]
  omega

/-- The masked score at an index. -/
theorem score_at (odd : Bool) (B : ℕ) (hB : B < 8192) (k : Vec Ideal S1x1088x128 .fp8e4m3) (x : Vec Ideal S1x64x256 .fp8e4m3) (q0 q1 q2 q3 kk : Ideal .f32) (r : Fin 1088) (c : Fin 256) :
    score odd (BitVec.ofNat 32 B) k x q0 q1 q2 q3 kk (ix2 r c) = if sees B r.val c.val then
      (∑ d : Fin 64, k (ix3 0 r (⟨64 * odd.toNat + d.val, by cases odd <;> simp <;> omega⟩ : Fin 128)) * x (ix3 0 (⟨c.val % 64, by omega⟩ : Fin 64) (⟨64 * (c.val / 64) + d.val, by omega⟩ : Fin 256)))
        * ((![q0, q1, q2, q3] : Fin 4 → EReal) ⟨c.val / 64, by omega⟩ * kk * Ideal.ofBits .f32 0x3E000000#32) else ⊥ := by
  pointwise [score]
  rw [mask_at B hB, select_ofBool, scales_at]
  have hk : (Named.named κ "mask" 4048155338#32 : Ideal .f32) = (⊥ : EReal) := rfl
  rw [hk]
  refine if_congr Iff.rfl ?_ rfl
  refine congrArg (· * _) ?_
  simp only [rows_at]
  rw [Fin.sum_univ_two_halves 64 64 rfl]
  have e : ∀ (a a' : Fin 128) (b b' : Fin 256), a.val = a'.val → b.val = b'.val →
      k (ix3 0 r a) * x (ix3 0 (⟨c.val % 64, by omega⟩ : Fin 64) b) = k (ix3 0 r a') * x (ix3 0 (⟨c.val % 64, by omega⟩ : Fin 64) b') := fun a a' b b' h1 h2 => by rw [Fin.ext h1, Fin.ext h2]
  have z : ∀ f g : Fin 64 → EReal, (∀ d, f d = 0) → (∑ d, f d) + ∑ d, g d = ∑ d, g d := fun f g h => by rw [Finset.sum_eq_zero fun d _ => h d, zero_add]
  have z' : ∀ f g : Fin 64 → EReal, (∀ d, g d = 0) → (∑ d, f d) + ∑ d, g d = ∑ d, f d := fun f g h => by rw [Finset.sum_eq_zero fun d _ => h d, add_zero]
  cases odd
  · rw [z' _ _ fun d => ?_]
    · refine Finset.sum_congr rfl fun d _ => ?_
      rw [if_pos (by simp only [Bool.toNat_false]; omega)]
      refine e _ _ _ _ ?_ ?_ <;> simp only [Bool.toNat_false] <;> omega
    · rw [if_neg (by simp only [Bool.toNat_false]; omega)]; exact mul_zero _
  · rw [z _ _ fun d => ?_]
    · refine Finset.sum_congr rfl fun d _ => ?_
      rw [if_pos (by simp only [Bool.toNat_true]; omega)]
      refine e _ _ _ _ ?_ ?_ <;> simp only [Bool.toNat_true] <;> omega
    · rw [if_neg (by simp only [Bool.toNat_true]; omega)]; exact mul_zero _

end Cert.KernelIdeal.Body

end
-- ==== Proof.Softmax.lean ====
module

public import Idealize.ShloMosaic.Lib.Pointwise
public import Idealize.ShloMosaic.Lib.Claim

@[expose] public section

noncomputable section

/-! Attention of one query over the extended reals: the windowed and undivided form against the form over all keys. -/

namespace Cert.Softmax

open Idealize.ShloMosaic

/-- The largest of finitely many extended reals. -/
def most {n : ℕ} (s : Fin n → EReal) : EReal := Finset.univ.fold max ⊥ s

/-- Every score is at most the largest. -/
theorem le_most {n : ℕ} (s : Fin n → EReal) (i : Fin n) : s i ≤ most s :=
  (Finset.le_fold_max _).mpr (.inr ⟨i, Finset.mem_univ i, le_rfl⟩)

/-- A bound on every score is a bound on the largest. -/
theorem most_le {n : ℕ} (s : Fin n → EReal) (b : EReal) (h : ∀ i, s i ≤ b) : most s ≤ b :=
  (Finset.fold_max_le _).mpr ⟨bot_le, fun i _ => h i⟩

/-- The weight of a score `a` where `m` is the largest score. -/
def weight (m a : EReal) : EReal := Ideal.exp (a - m)

/-- A power of 2 with its exponent times `1 / log 2` is the exponential. -/
theorem exp2_scaled (x : EReal) : Ideal.exp2 (x * (((Real.log 2)⁻¹ : ℝ) : EReal)) = Ideal.exp x := by
  have hl : (0 : ℝ) < (Real.log 2)⁻¹ := inv_pos.mpr (Real.log_pos (by norm_num))
  induction x with
  | bot => rw [EReal.bot_mul_coe_of_pos hl]; rfl
  | top => rw [EReal.top_mul_coe_of_pos hl]; rfl
  | coe r =>
    rw [← EReal.coe_mul]
    show ((Real.rpow 2 _ : ℝ) : EReal) = ((Real.exp r : ℝ) : EReal)
    congr 1
    rw [Real.rpow_eq_pow, Real.rpow_def_of_pos (by norm_num)]
    congr 1
    have : Real.log 2 ≠ 0 := (Real.log_pos (by norm_num)).ne'
    field_simp

/-- The weight of a score at most the largest is a nonnegative real. -/
theorem weight_real (m a : EReal) (h : a ≤ m) : ∃ r : ℝ, 0 ≤ r ∧ weight m a = (r : EReal) := by
  unfold weight
  induction m with
  | top => exact ⟨0, le_rfl, by rw [EReal.sub_top]; rfl⟩
  | bot => rw [le_bot_iff.mp h]; exact ⟨0, le_rfl, rfl⟩
  | coe m =>
    induction a with
    | top => exact absurd h (by simp)
    | bot => exact ⟨0, le_rfl, rfl⟩
    | coe a => exact ⟨Real.exp (a - m), (Real.exp_pos _).le, by rw [← EReal.coe_sub]; rfl⟩

/-- A score of minus infinity weighs 0. -/
theorem weight_bot (m : EReal) : weight m ⊥ = 0 := by
  unfold weight; rw [EReal.bot_sub]; rfl

/-- A finite nonnegative factor moves out of a sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- The sum of reals is the same in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing the weighted sum by the sum of the weights, or every weight by it: the same, also where the weights sum to 0. -/
theorem divide_after {n : ℕ} (p val : Fin n → EReal) (vs : EReal) (hp : ∀ i, ∃ r : ℝ, 0 ≤ r ∧ p i = (r : EReal)) :
    (∑ i, val i * p i) * Ideal.div vs (∑ i, p i) = (∑ i, (p i * Ideal.div 1 (∑ i, p i)) * val i) * vs := by
  choose r h0 hr using hp
  have hL : ∑ i, p i = ((∑ i, r i : ℝ) : EReal) := by rw [coe_sum]; exact Finset.sum_congr rfl fun i _ => hr i
  rcases eq_or_lt_of_le (Finset.sum_nonneg fun i (_ : i ∈ Finset.univ) => h0 i) with hz | hpos
  · have hz' : ∀ i, p i = 0 := fun i => by
      rw [hr i, (Finset.sum_eq_zero_iff_of_nonneg fun i _ => h0 i).mp hz.symm i (Finset.mem_univ i)]; rfl
    simp only [hz', mul_zero, zero_mul, Finset.sum_const_zero]
  · have hne : ((∑ i, r i : ℝ) : EReal) ≠ 0 := by simpa using hpos.ne'
    have hd : ∀ x, Ideal.div x (∑ i, p i) = x * ((∑ i, r i)⁻¹ : ℝ) := fun x => by
      rw [hL, Ideal.div, if_neg hne, EReal.coe_inv]
    have hc : (0 : ℝ) ≤ (∑ i, r i)⁻¹ := (inv_pos.mpr hpos).le
    simp only [hd, one_mul]
    rw [mul_comm vs, ← mul_assoc, sum_mul_coe _ _ _ hc]
    refine congrArg (· * vs) (Finset.sum_congr rfl fun i _ => ?_)
    rw [mul_comm (val i), mul_assoc, mul_assoc, mul_comm (val i)]

/-- A sum over a window of positions is the sum over all keys, where the terms outside vanish. -/
theorem window_sum (A : ℕ) (f : Fin 1152 → EReal) (g : Fin 8192 → EReal)
    (h1 : ∀ (r : Fin 1152) (κ : Fin 8192), κ.val + 1024 = A + r.val → f r = g κ)
    (h2 : ∀ r : Fin 1152, A + r.val < 1024 ∨ 9216 ≤ A + r.val → f r = 0)
    (h3 : ∀ κ : Fin 8192, (∀ r : Fin 1152, κ.val + 1024 ≠ A + r.val) → g κ = 0) :
    ∑ r, f r = ∑ κ, g κ := by
  classical
  have hs : ∑ r, f r = ∑ r ∈ Finset.univ.filter (fun r : Fin 1152 => 1024 ≤ A + r.val ∧ A + r.val < 9216), f r :=
    (Finset.sum_subset (Finset.filter_subset _ _) fun r _ hr => h2 r (by simp at hr; omega)).symm
  rw [hs]
  refine Finset.sum_of_injOn (fun r : Fin 1152 => (Fin.ofNat 8192 (A + r.val - 1024))) ?_ (fun _ _ => Finset.mem_coe.mpr (Finset.mem_univ _)) ?_ ?_
  · intro a ha b hb hab
    simp only [Finset.coe_filter, Finset.mem_univ, true_and, Set.mem_setOf_eq] at ha hb
    have := congrArg Fin.val hab
    simp only [Fin.val_ofNat] at this
    exact Fin.ext (by omega)
  · intro κ _ hκ
    refine h3 κ fun r hr => hκ ⟨r, ?_, ?_⟩
    · simp only [Finset.coe_filter, Finset.mem_univ, true_and, Set.mem_setOf_eq]; omega
    · exact Fin.ext (by simp only [Fin.val_ofNat]; omega)
  · intro r hr
    simp only [Finset.mem_filter, Finset.mem_univ, true_and] at hr
    exact h1 r _ (by simp only [Fin.val_ofNat]; omega)

/-- Attention of one query over all keys: the weights, divided by their sum, times the values, summed and scaled. -/
def attention (sc val : Fin 8192 → EReal) (vs : EReal) : EReal :=
  (∑ κ, (weight (most sc) (sc κ) * Ideal.div 1 (∑ κ, weight (most sc) (sc κ))) * val κ) * vs

/-- The windowed form over 1088 keys from position `B` on, in rows shifted by `u`, divided after the sum, is attention over all keys, where the keys outside the window are masked. -/
theorem windowed (B u : ℕ) (hu : u ≤ 64) (huB : u ≤ B) (hB : B + 1088 ≤ 9216) (sc val : Fin 8192 → EReal) (vs : EReal) (s : Fin 1088 → EReal) (v o w : Fin 1152 → EReal)
    (hs1 : ∀ (r : Fin 1088) (κ : Fin 8192), κ.val + 1024 = B + r.val → s r = sc κ)
    (hs2 : ∀ r : Fin 1088, B + r.val < 1024 → s r = ⊥)
    (hs3 : ∀ κ : Fin 8192, (∀ r : Fin 1088, κ.val + 1024 ≠ B + r.val) → sc κ = ⊥)
    (hv : ∀ (r : Fin 1152) (κ : Fin 8192), u ≤ r.val → r.val < 1088 + u → κ.val + 1024 + u = B + r.val → v r = val κ)
    (ho : ∀ (r : Fin 1152) (κ : Fin 8192), u ≤ r.val → r.val < 1088 + u → κ.val + 1024 + u = B + r.val → o r = 1)
    (hw : ∀ r : Fin 1152, w r = if h : u ≤ r.val ∧ r.val < 1088 + u then Ideal.exp2 ((s ⟨r.val - u, by omega⟩ - most s) * (((Real.log 2)⁻¹ : ℝ) : EReal)) else 0) :
    (∑ r, v r * w r) * Ideal.div vs (∑ r, o r * w r) = attention sc val vs := by
  have hm : most s = most sc := by
    refine le_antisymm (most_le _ _ fun r => ?_) (most_le _ _ fun κ => ?_)
    · by_cases h : B + r.val < 1024
      · rw [hs2 r h]; exact bot_le
      · rw [hs1 r ⟨B + r.val - 1024, by omega⟩ (by simp only; omega)]; exact le_most _ _
    · by_cases h : ∃ r : Fin 1088, κ.val + 1024 = B + r.val
      · obtain ⟨r, hr⟩ := h; rw [← hs1 r κ hr]; exact le_most _ _
      · rw [hs3 κ fun r hr => h ⟨r, hr⟩]; exact bot_le
  have hw' : ∀ (r : Fin 1152) (h : u ≤ r.val ∧ r.val < 1088 + u), w r = weight (most sc) (s ⟨r.val - u, by omega⟩) := fun r h => by
    rw [hw, dif_pos h, exp2_scaled, hm]; rfl
  have hw0 : ∀ r : Fin 1152, B + r.val < 1024 + u ∨ 9216 + u ≤ B + r.val → w r = 0 := fun r h => by
    by_cases h' : u ≤ r.val ∧ r.val < 1088 + u
    · rw [hw' r h', hs2 _ (by simp only; omega), weight_bot]
    · rw [hw, dif_neg h']
  have key : ∀ (x : Fin 1152 → EReal) (y : Fin 8192 → EReal),
      (∀ (r : Fin 1152) (κ : Fin 8192), u ≤ r.val → r.val < 1088 + u → κ.val + 1024 + u = B + r.val → x r = y κ) → ∑ r, x r * w r = ∑ κ, y κ * weight (most sc) (sc κ) := fun x y hxy => by
    refine window_sum (B - u) _ _ (fun r κ h => ?_) (fun r h => ?_) fun κ h => ?_
    · by_cases h' : u ≤ r.val ∧ r.val < 1088 + u
      · rw [hxy r κ h'.1 h'.2 (by omega), hw' r h', hs1 _ κ (by simp only; omega)]
      · rw [hw, dif_neg h', mul_zero, hs3 κ fun r' hr' => h' (by omega), weight_bot, mul_zero]
    · rw [hw0 r (by omega), mul_zero]
    · rw [hs3 κ fun r' hr' => h ⟨r'.val + u, by omega⟩ (by simp only; omega), weight_bot, mul_zero]
  rw [key v val hv, key o (fun _ => 1) ho]
  simp only [one_mul]
  exact divide_after _ _ _ fun κ => weight_real _ _ (le_most _ _)

/-- The score of key `κ` for the query at position `pos` in lane `lane`'s head: the scaled product, masked to `⊥` outside the 1000 latest positions. -/
def scoreOf (x : (⟨3, ![8, 8192, 1024]⟩ : Shape).Idx → EReal) (k : (⟨3, ![8, 8192, 256]⟩ : Shape).Idx → EReal) (q : (⟨1, ![16]⟩ : Shape).Idx → EReal) (kk : (⟨1, ![4]⟩ : Shape).Idx → EReal)
    (n : Fin 8) (pos : Fin 8192) (lane : Fin 1024) (κ : Fin 8192) : EReal :=
  if κ.val ≤ pos.val ∧ pos.val < κ.val + 1000 then
    (∑ d : Fin 64, k (ix3 n κ (⟨64 * (lane.val / 256) + d.val, by omega⟩ : Fin 256)) * x (ix3 n pos (⟨64 * (lane.val / 64) + d.val, by omega⟩ : Fin 1024)))
      * (q (ix1 (⟨lane.val / 64, by omega⟩ : Fin 16)) * kk (ix1 (⟨lane.val / 256, by omega⟩ : Fin 4)) * Ideal.ofBits .f32 0x3E000000#32)
  else ⊥

/-- The attention layer's result at one position and lane. -/
def layer (x : (⟨3, ![8, 8192, 1024]⟩ : Shape).Idx → EReal) (k v : (⟨3, ![8, 8192, 256]⟩ : Shape).Idx → EReal) (q : (⟨1, ![16]⟩ : Shape).Idx → EReal) (kk vv : (⟨1, ![4]⟩ : Shape).Idx → EReal)
    (n : Fin 8) (pos : Fin 8192) (lane : Fin 1024) : EReal :=
  attention (scoreOf x k q kk n pos lane) (fun κ => v (ix3 n κ (⟨64 * (lane.val / 256) + lane.val % 64, by omega⟩ : Fin 256))) (vv (ix1 (⟨lane.val / 256, by omega⟩ : Fin 4)))

end Cert.Softmax

end
-- ==== Proof.KernelIdeal.Chunk.lean ====
module

public import proofs.«01_k».proof.Proof.KernelIdeal.Piece
public import proofs.«01_k».proof.Proof.KernelIdeal.UnitVal
public import proofs.«01_k».proof.Proof.Softmax

@[expose] public section

set_option maxRecDepth 16384

noncomputable section

/-! One stored piece of the output block is the attention layer's result there. -/

namespace Cert.KernelIdeal.Body

open Cert.KernelIdeal.Gen
open Idealize.ShloMosaic Idealize.ShloMosaic.TcCoe Idealize.SL.Sem

/-- The word of a query block's first row is that row. -/
theorem base_eq (i : grid0.Coords) (t : ℕ) (ht : t < 4) : base i t = BitVec.ofNat 32 (256 * (i 1).val + 64 * t) := by
  have hj : (i 1).val < 32 := (i 1).isLt
  apply BitVec.eq_of_toNat_eq
  simp only [base, Scalar.addi, Scalar.muli, IntOp.addi, IntOp.muli, BitVec.toNat_add, BitVec.toNat_mul, BitVec.toNat_ofNat]
  omega

/-- The key buffer holds the first `m` keys of the batch entry `n`. -/
def HoldsK (A1 : Vec Ideal S8x8192x256 .fp8e4m3) (n : Fin 8) (m : ℕ) (K : Vec Ideal S4x9216x128 .fp8e4m3) : Prop :=
  ∀ (g : Fin 4) (p : Fin 9216) (l : Fin 128) (κ : Fin 8192) (l' : Fin 256), p.val = κ.val + 1024 → κ.val < m → l'.val = 128 * (g.val / 2) + l.val → K (ix3 g p l) = A1 (ix3 n κ l')

/-- The value buffer holds the first `m` values of the batch entry `n`. -/
def HoldsV (A2 : Vec Ideal S8x8192x256 .fp8e4m3) (n : Fin 8) (m : ℕ) (V : Vec Ideal S4x80x9216 .bf16) : Prop :=
  ∀ (g : Fin 4) (d : Fin 80) (p : Fin 9216) (κ : Fin 8192) (l' : Fin 256), d.val < 64 → p.val = κ.val + 1024 → κ.val < m → l'.val = 64 * g.val + d.val → V (ix3 g d p) = A2 (ix3 n κ l')

/-- Row 64 of each group of the value buffer is 1 at the keys. -/
def HoldsOne (V : Vec Ideal S4x80x9216 .bf16) : Prop :=
  ∀ (g : Fin 4) (p : Fin 9216), 1024 ≤ p.val → V (ix3 g 64 p) = (1 : EReal)

/-- A stored piece of unit `u` is the layer's result at its rows and lanes. -/
theorem unit_layer (i : grid0.Coords) (n : Fin 8) (A0 : Vec Ideal S8x8192x1024 .fp8e4m3) (A1 A2 : Vec Ideal S8x8192x256 .fp8e4m3) (x0 : Vec Ideal S16 .f32) (x1 x2 : Vec Ideal S4 .f32)
    (x3 : Vec Ideal S1x256x1024 .fp8e4m3) (K : Vec Ideal S4x9216x128 .fp8e4m3) (V : Vec Ideal S4x80x9216 .bf16) (t g : ℕ) (snd : Bool) (ht : t < 4) (hg : g < 4) (p : View.Piece (Elt Ideal) S1x256x1024 .bf16)
    (hu : IsUnit i x0 x1 x2 x3 K V (t, g, snd) p)
    (hx : ∀ (r : Fin 256) (l : Fin 1024) (pos : Fin 8192), pos.val = 256 * (i 1).val + r.val → x3 (ix3 0 r l) = A0 (ix3 n pos l))
    (hK : HoldsK A1 n (256 * (i 1).val + 256) K) (hV : HoldsV A2 n (256 * (i 1).val + 256) V) (hO : HoldsOne V) :
    ∃ (h : ∀ a, (![0, 64 * t, 256 * g + 128 * snd.toNat] : Fin 3 → ℕ) a + S1x64x128.size a ≤ S1x256x1024.size a) (w : Vec Ideal S1x64x128 .bf16),
      p = ⟨Rect.unit ![0, 64 * t, 256 * g + 128 * snd.toNat] S1x64x128.size h, w⟩
      ∧ ∀ (q : Fin 64) (l : Fin 128) (pos : Fin 8192) (lane : Fin 1024), pos.val = 256 * (i 1).val + 64 * t + q.val → lane.val = 256 * g + 128 * snd.toNat + l.val →
        w (ix3 0 q l) = Softmax.layer A0 A1 A2 x0 x1 x2 n pos lane := by
  have hj : (i 1).val < 32 := (i 1).isLt
  obtain ⟨h, b, k, x, q0, q1, q2, q3, kk, s, v, vs, rfl, rfl, rfl, hk, hxw, hv, h0, h1, h2, h3, h4, rfl⟩ := hu
  refine ⟨h, _, rfl, fun q l pos lane hpos hlane => ?_⟩
  dsimp only at *
  rw [unit, pair_at, attend_at, base_eq i t ht]
  have hs2 : snd.toNat < 2 := by cases snd <;> simp
  generalize hB : 256 * (i 1).val + 64 * t = B
  set c : Fin 256 := ⟨64 * (2 * snd.toNat + l.val / 64) + q.val, by omega⟩ with hc
  have hc64 : c.val / 64 = 2 * snd.toNat + l.val / 64 := by simp only [hc]; omega
  have hcm : c.val % 64 = q.val := by simp only [hc]; omega
  have hup : 64 * (t % 2 == 1).toNat = 64 * (t % 2) := by rcases Nat.mod_two_eq_zero_or_one t with h | h <;> simp [h]
  have hodd : 64 * (g % 2 == 1).toNat = 64 * (g % 2) := by rcases Nat.mod_two_eq_zero_or_one g with h | h <;> simp [h]
  unfold Softmax.layer
  refine (congrArg (fun a => _ * Ideal.div a _) ?_).trans (Softmax.windowed B (64 * (t % 2 == 1).toNat) (by omega) (by omega) (by omega) _ _ _
    (fun r => score (g % 2 == 1) (BitVec.ofNat 32 B) k x q0 q1 q2 q3 kk (ix2 r c)) (fun r => v (ix3 0 (⟨l.val % 64, by omega⟩ : Fin 80) r)) (fun r => v (ix3 0 (64 : Fin 80) r)) _ ?_ ?_ ?_ ?_ ?_ ?_)
  · exact congrArg x2 (congrArg ix1 (Fin.ext (by simp only [Fin.val_ofNat]; omega)))
  · intro r κ hr
    rw [score_at _ B (by omega), Softmax.scoreOf]
    by_cases hsee : sees B r.val c.val
    · rw [if_pos hsee, if_pos (by unfold sees at hsee; omega)]
      refine congrArg₂ (· * ·) (Finset.sum_congr rfl fun d _ => congrArg₂ (· * ·) ?_ ?_) (congrArg (· * _) (congrArg₂ (· * ·) ?_ ?_))
      · rw [hk]
        exact hK _ _ _ _ _ (by simp only [Fin.val_ofNat]; omega) (by unfold sees at hsee; omega) (by simp only [Fin.val_ofNat]; omega)
      · rw [hxw, hx _ _ pos (by simp only [Fin.val_ofNat]; omega)]
        exact congrArg (fun y => A0 (ix3 n pos y)) (Fin.ext (by simp only [Fin.val_ofNat]; omega))
      · have hh : (⟨lane.val / 64, by omega⟩ : Fin 16).val = 4 * g + c.val / 64 := by simp only; omega
        have hlt : c.val / 64 < 4 := by omega
        generalize (⟨lane.val / 64, by omega⟩ : Fin 16) = y at hh
        subst h0 h1 h2 h3
        generalize hz : (⟨c.val / 64, by omega⟩ : Fin 4) = z
        have hz' : z.val = c.val / 64 := by rw [← hz]
        fin_cases z
        all_goals exact congrArg x0 (congrArg ix1 (Fin.ext (by simp only [Fin.val_ofNat]; simp at hz'; omega)))
      · rw [h4]
        exact congrArg x1 (congrArg ix1 (Fin.ext (by simp only [Fin.val_ofNat]; omega)))
    · rw [if_neg hsee, if_neg (by unfold sees at hsee; omega)]
  · intro r hr
    rw [score_at _ B (by omega), if_neg (by unfold sees; omega)]
  · intro κ hκ
    rw [Softmax.scoreOf, if_neg]
    rintro ⟨h1, h2⟩
    exact hκ ⟨κ.val + 1024 - B, by omega⟩ (by simp only; omega)
  · intro r κ e1 e2 e3
    rw [hv]
    exact hV _ _ _ _ _ (by simp only; omega) (by simp only [Fin.val_ofNat]; omega) (by omega) (by simp only [Fin.val_ofNat]; omega)
  · intro r κ e1 e2 e3
    rw [hv]
    exact hO _ _ (by simp only [Fin.val_ofNat]; omega)
  · intro r
    rw [weights_at, top_at]
    rfl

end Cert.KernelIdeal.Body

end
-- ==== Proof.KernelIdeal.Bufs.lean ====
module

public import proofs.«01_k».proof.Proof.KernelIdeal.Piece
public import Idealize.ShloMosaic.Lib.WritesUnit
public import Idealize.ShloMosaic.Lib.Pipeline.ValueKit
public import Idealize.ShloMosaic.Lib.WordCmp

@[expose] public section

set_option maxRecDepth 1000000

noncomputable section

/-! What one run of the body leaves in the key buffer and in the value buffer. -/

namespace Cert.KernelIdeal.Body

open Cert.KernelIdeal.Gen
open Idealize.ShloMosaic Idealize.ShloMosaic.TcCoe Idealize.ShloMosaic.Tactic Idealize.SL.Sem

section
variable {F : FTy → Type} [FloatOps F] [Named F]

/-- 128 of the 256 columns of a block of keys, the lower or the upper ones. -/
def keyHalf (up : Bool) (X : Vec F S1x256x256 .fp8e4m3) : Vec F S1x256x128 .fp8e4m3 :=
  shapeCast S1x256x128 (bif up then extractStridedSlice S256x128 ![0, 128] (shapeCast S256x256 X (by decide)) (by decide) else extractStridedSlice S256x128 ![0, 0] (shapeCast S256x256 X (by decide)) (by decide)) (by decide)

/-- The 64 columns of group `g` of a block of values, transposed. -/
def valRows (X : Vec F S1x256x256 .fp8e4m3) : FVec F S256x256 .bf16 :=
  transpose S256x256 [1, 0] (extf .bf16 (shapeCast S256x256 X (by decide) : FVec F S256x256 .fp8e4m3) (by decide)) (by decide)

/-- Row 0 of 16 rows is 1 from column 1024 on, all else is 0. -/
def onesRow : Vec F S1x16x9216 .bf16 :=
  shapeCast S1x16x9216 (truncf .bf16 (select (andi (cmpi .eq (iota .tc S16x9216 32 [0] (by decide)) (broadcast S16x9216 0#32)) (cmpi .sge (iota .tc S16x9216 32 [1] (by decide)) (broadcast S16x9216 1024#32))) (broadcast S16x9216 (FloatOps.ofBits (F := F) .f32 1065353216#32)) (broadcast S16x9216 (FloatOps.ofBits (F := F) .f32 0#32)) : FVec F S16x9216 .f32) (by decide)) (by decide)

/-- The four stores of a chunk of keys, the last first. -/
def keyPieces (i : grid0.Coords) (X : Vec F S1x256x256 .fp8e4m3) : List (View.Piece (Elt F) S4x9216x128 .fp8e4m3) :=
  [⟨Rect.unit (k0_off7 i) S1x256x128.size (k0_off7_inb i), keyHalf true X⟩, ⟨Rect.unit (k0_off5 i) S1x256x128.size (k0_off5_inb i), keyHalf true X⟩,
   ⟨Rect.unit (k0_off3 i) S1x256x128.size (k0_off3_inb i), keyHalf false X⟩, ⟨Rect.unit (k0_off1 i) S1x256x128.size (k0_off1_inb i), keyHalf false X⟩]

/-- The four stores of a chunk of values, the last first. -/
def valPieces (i : grid0.Coords) (X : Vec F S1x256x256 .fp8e4m3) : List (View.Piece (Elt F) S4x80x9216 .bf16) :=
  [⟨Rect.unit (k0_off8 i) S1x64x256.size (k0_off8_inb i), shapeCast S1x64x256 (extractStridedSlice S64x256 ![192, 0] (valRows X) (by decide)) (by decide)⟩,
   ⟨Rect.unit (k0_off6 i) S1x64x256.size (k0_off6_inb i), shapeCast S1x64x256 (extractStridedSlice S64x256 ![128, 0] (valRows X) (by decide)) (by decide)⟩,
   ⟨Rect.unit (k0_off4 i) S1x64x256.size (k0_off4_inb i), shapeCast S1x64x256 (extractStridedSlice S64x256 ![64, 0] (valRows X) (by decide)) (by decide)⟩,
   ⟨Rect.unit (k0_off2 i) S1x64x256.size (k0_off2_inb i), shapeCast S1x64x256 (extractStridedSlice S64x256 ![0, 0] (valRows X) (by decide)) (by decide)⟩]

end

/-- One half of the keys of a block, at an index. -/
theorem keyHalf_at (up : Bool) (X : Vec Ideal S1x256x256 .fp8e4m3) (r : Fin 256) (l : Fin 128) (l' : Fin 256) (hl : l'.val = 128 * up.toNat + l.val) :
    keyHalf up X (ix3 0 r l) = X (ix3 0 r l') := by
  cases up
  · pointwise [keyHalf, cond_false]
    exact congrArg (fun y => X (ix3 0 r y)) (Fin.ext (by simp at hl ⊢; omega))
  · pointwise [keyHalf, cond_true]
    exact congrArg (fun y => X (ix3 0 r y)) (Fin.ext (by simp at hl ⊢; omega))

/-- The values of a block, turned, at an index. -/
theorem valRows_at (X : Vec Ideal S1x256x256 .fp8e4m3) (a b : Fin 256) : valRows X (ix2 a b) = X (ix3 0 b a) := by
  pointwise [valRows]

/-- The row of ones is 1 from position 1024 on. -/
theorem onesRow_at (c : Fin 9216) (h : 1024 ≤ c.val) : onesRow (F := Ideal) (ix3 0 0 c) = (1 : EReal) := by
  pointwise [onesRow]
  have h1 : (BitVec.ofNat 32 c.val).toInt = c.val := WordCmp.toInt_ofNat_of_lt (by omega)
  have : IntOp.cmpi .sge (BitVec.ofNat 32 c.val) 1024#32 = 1#1 := by
    have h2 : (1024#32 : BitVec 32).toInt = 1024 := by decide
    simp [IntOp.cmpi, BitVec.sle, h1, h2, h]
  rw [this]; rfl

/-- Reading at an index inside the newest piece. -/
theorem read_inside {σ : RefSig} {κ : Kind} {sp : Space} {e : EltTy} {Val : EltTy → Type} {n0 n1 n2 m1 m2 : ℕ} (v : View σ κ sp ⟨3, ![n0, n1, n2]⟩ e) (f : v.ty.Contents Val) (off : Fin 3 → ℕ) (o0 o1 o2 : ℕ)
    (ho : off = ![o0, o1, o2]) (inb : ∀ a, off a + (⟨3, ![1, m1, m2]⟩ : Shape).size a ≤ (⟨3, ![n0, n1, n2]⟩ : Shape).size a) (w : (⟨3, ![1, m1, m2]⟩ : Shape).Idx → Val e) (L : List (View.Piece Val ⟨3, ![n0, n1, n2]⟩ e))
    (a : Fin n0) (b : Fin n1) (c : Fin n2) (y : Fin m1) (z : Fin m2) (ha : a.val = o0) (hb : b.val = o1 + y.val) (hc : c.val = o2 + z.val) :
    v.read Val (v.writes Val f ((⟨Rect.unit (s := ⟨3, ![n0, n1, n2]⟩) off (⟨3, ![1, m1, m2]⟩ : Shape).size inb, w⟩ : View.Piece Val ⟨3, ![n0, n1, n2]⟩ e) :: L)) (ix3 a b c) = w (ix3 0 y z) := by
  refine View.read_writes_cons_unit_of_mem v f inb w L (ix3 a b c) (ix3 0 y z) ho fun d => ?_
  fin_cases d
  · simpa [ix3] using ha
  · simpa [ix3] using hb
  · simpa [ix3] using hc

/-- Reading at an index outside the newest piece. -/
theorem read_outside {σ : RefSig} {κ : Kind} {sp : Space} {e : EltTy} {Val : EltTy → Type} {n0 n1 n2 m1 m2 : ℕ} (v : View σ κ sp ⟨3, ![n0, n1, n2]⟩ e) (f : v.ty.Contents Val) (off : Fin 3 → ℕ) (o0 o1 o2 : ℕ)
    (ho : off = ![o0, o1, o2]) (inb : ∀ a, off a + (⟨3, ![1, m1, m2]⟩ : Shape).size a ≤ (⟨3, ![n0, n1, n2]⟩ : Shape).size a) (w : (⟨3, ![1, m1, m2]⟩ : Shape).Idx → Val e) (L : List (View.Piece Val ⟨3, ![n0, n1, n2]⟩ e))
    (a : Fin n0) (b : Fin n1) (c : Fin n2) (h : a.val ≠ o0 ∨ (b.val < o1 ∨ o1 + m1 ≤ b.val) ∨ (c.val < o2 ∨ o2 + m2 ≤ c.val)) :
    v.read Val (v.writes Val f ((⟨Rect.unit (s := ⟨3, ![n0, n1, n2]⟩) off (⟨3, ![1, m1, m2]⟩ : Shape).size inb, w⟩ : View.Piece Val ⟨3, ![n0, n1, n2]⟩ e) :: L)) (ix3 a b c) = v.read Val (v.writes Val f L) (ix3 a b c) := by
  rcases h with h | h | h
  · exact View.read_writes_cons_unit_of_not_mem v f inb w L (ix3 a b c) ho 0 (show a.val < o0 ∨ o0 + 1 ≤ a.val by omega)
  · exact View.read_writes_cons_unit_of_not_mem v f inb w L (ix3 a b c) ho 1 (show b.val < o1 ∨ o1 + m1 ≤ b.val from h)
  · exact View.read_writes_cons_unit_of_not_mem v f inb w L (ix3 a b c) ho 2 (show c.val < o2 ∨ o2 + m2 ≤ c.val from h)

section
variable {σ : RefSig} {κ : Kind} {sp : Space} (i : grid0.Coords) (X : Vec Ideal S1x256x256 .fp8e4m3)

/-- The keys of the chunk are where the stores put them. -/
theorem key_new (v : View σ κ sp S4x9216x128 .fp8e4m3) (f : v.ty.Contents (Elt Ideal)) (L) (g : Fin 4) (p : Fin 9216) (l : Fin 128) (r l' : Fin 256)
    (hp : p.val = 256 * (i 1).val + 1024 + r.val) (hl : l'.val = 128 * (g.val / 2) + l.val) :
    v.read (Elt Ideal) (v.writes (Elt Ideal) f (keyPieces i X ++ L)) (ix3 g p l) = X (ix3 0 r l') := by
  unfold keyPieces
  simp only [List.cons_append, List.nil_append]
  fin_cases g
  · rw [read_outside v f _ _ _ _ (k0_off7_eq i), read_outside v f _ _ _ _ (k0_off5_eq i), read_outside v f _ _ _ _ (k0_off3_eq i), read_inside v f _ _ _ _ (k0_off1_eq i) _ _ _ _ _ _ r l]
    · exact keyHalf_at _ _ _ _ _ (by simpa using hl)
    all_goals simp; try omega
  · rw [read_outside v f _ _ _ _ (k0_off7_eq i), read_outside v f _ _ _ _ (k0_off5_eq i), read_inside v f _ _ _ _ (k0_off3_eq i) _ _ _ _ _ _ r l]
    · exact keyHalf_at _ _ _ _ _ (by simpa using hl)
    all_goals simp; try omega
  · rw [read_outside v f _ _ _ _ (k0_off7_eq i), read_inside v f _ _ _ _ (k0_off5_eq i) _ _ _ _ _ _ r l]
    · exact keyHalf_at _ _ _ _ _ (by simpa using hl)
    all_goals simp; try omega
  · rw [read_inside v f _ _ _ _ (k0_off7_eq i) _ _ _ _ _ _ r l]
    · exact keyHalf_at _ _ _ _ _ (by simpa using hl)
    all_goals simp; try omega

/-- Elsewhere the key buffer is as it was. -/
theorem key_old (v : View σ κ sp S4x9216x128 .fp8e4m3) (f : v.ty.Contents (Elt Ideal)) (L) (g : Fin 4) (p : Fin 9216) (l : Fin 128)
    (hp : p.val < 256 * (i 1).val + 1024 ∨ 256 * (i 1).val + 1024 + 256 ≤ p.val) :
    v.read (Elt Ideal) (v.writes (Elt Ideal) f (keyPieces i X ++ L)) (ix3 g p l) = v.read (Elt Ideal) (v.writes (Elt Ideal) f L) (ix3 g p l) := by
  unfold keyPieces
  simp only [List.cons_append, List.nil_append]
  rw [read_outside v f _ _ _ _ (k0_off7_eq i) _ _ _ _ _ _ (.inr (.inl hp)), read_outside v f _ _ _ _ (k0_off5_eq i) _ _ _ _ _ _ (.inr (.inl hp)), read_outside v f _ _ _ _ (k0_off3_eq i) _ _ _ _ _ _ (.inr (.inl hp)), read_outside v f _ _ _ _ (k0_off1_eq i) _ _ _ _ _ _ (.inr (.inl hp))]

/-- 64 rows of the turned values, at an index. -/
theorem valSlice_at (o : ℕ) (Y : FVec Ideal S256x256 .bf16) (h) (h') (d : Fin 64) (r d' : Fin 256) (hd : d'.val = o + d.val) :
    (shapeCast S1x64x256 (extractStridedSlice S64x256 ![o, 0] Y h) h' : Vec Ideal S1x64x256 .bf16) (ix3 0 d r) = Y (ix2 d' r) := by
  pointwise
  exact congrArg (fun y => Y (ix2 y r)) (Fin.ext (by simpa using hd.symm))

/-- The values of the chunk are where the stores put them. -/
theorem val_new (v : View σ κ sp S4x80x9216 .bf16) (f : v.ty.Contents (Elt Ideal)) (L) (g : Fin 4) (d : Fin 80) (p : Fin 9216) (hd : d.val < 64) (r d' : Fin 256)
    (hp : p.val = 256 * (i 1).val + 1024 + r.val) (hl : d'.val = 64 * g.val + d.val) :
    v.read (Elt Ideal) (v.writes (Elt Ideal) f (valPieces i X ++ L)) (ix3 g d p) = X (ix3 0 r d') := by
  unfold valPieces
  simp only [List.cons_append, List.nil_append]
  fin_cases g
  · rw [read_outside v f _ _ _ _ (k0_off8_eq i), read_outside v f _ _ _ _ (k0_off6_eq i), read_outside v f _ _ _ _ (k0_off4_eq i), read_inside v f _ _ _ _ (k0_off2_eq i) _ _ _ _ _ _ (⟨d.val, hd⟩ : Fin 64) r]
    · rw [valSlice_at 0 _ _ _ _ _ d' (by simpa using hl), valRows_at]
    all_goals simp; try omega
  · rw [read_outside v f _ _ _ _ (k0_off8_eq i), read_outside v f _ _ _ _ (k0_off6_eq i), read_inside v f _ _ _ _ (k0_off4_eq i) _ _ _ _ _ _ (⟨d.val, hd⟩ : Fin 64) r]
    · rw [valSlice_at 64 _ _ _ _ _ d' (by simpa using hl), valRows_at]
    all_goals simp; try omega
  · rw [read_outside v f _ _ _ _ (k0_off8_eq i), read_inside v f _ _ _ _ (k0_off6_eq i) _ _ _ _ _ _ (⟨d.val, hd⟩ : Fin 64) r]
    · rw [valSlice_at 128 _ _ _ _ _ d' (by simpa using hl), valRows_at]
    all_goals simp; try omega
  · rw [read_inside v f _ _ _ _ (k0_off8_eq i) _ _ _ _ _ _ (⟨d.val, hd⟩ : Fin 64) r]
    · rw [valSlice_at 192 _ _ _ _ _ d' (by simpa using hl), valRows_at]
    all_goals simp; try omega

/-- Elsewhere the value buffer is as it was. -/
theorem val_old (v : View σ κ sp S4x80x9216 .bf16) (f : v.ty.Contents (Elt Ideal)) (L) (g : Fin 4) (d : Fin 80) (p : Fin 9216)
    (hp : 64 ≤ d.val ∨ p.val < 256 * (i 1).val + 1024 ∨ 256 * (i 1).val + 1024 + 256 ≤ p.val) :
    v.read (Elt Ideal) (v.writes (Elt Ideal) f (valPieces i X ++ L)) (ix3 g d p) = v.read (Elt Ideal) (v.writes (Elt Ideal) f L) (ix3 g d p) := by
  unfold valPieces
  simp only [List.cons_append, List.nil_append]
  have h : (d.val < 0 ∨ 0 + 64 ≤ d.val) ∨ (p.val < 256 * (i 1).val + 1024 ∨ 256 * (i 1).val + 1024 + 256 ≤ p.val) := by omega
  rw [read_outside v f _ _ _ _ (k0_off8_eq i) _ _ _ _ _ _ (.inr h), read_outside v f _ _ _ _ (k0_off6_eq i) _ _ _ _ _ _ (.inr h), read_outside v f _ _ _ _ (k0_off4_eq i) _ _ _ _ _ _ (.inr h), read_outside v f _ _ _ _ (k0_off2_eq i) _ _ _ _ _ _ (.inr h)]
end

section
variable {F : FTy → Type} [FloatOps F] [Named F]

/-- What the first point writes in the value buffer before its chunk, the last first: per group the row of ones, then the zeros before the first column. -/
def padPieces (Z : Vec F S1x64x1024 .bf16) : List (View.Piece (Elt F) S4x80x9216 .bf16) :=
  [⟨Rect.unit ![3, 64, 0] S1x16x9216.size (by decide), onesRow⟩, ⟨Rect.unit ![3, 0, 0] S1x64x1024.size (by decide), Z⟩,
   ⟨Rect.unit ![2, 64, 0] S1x16x9216.size (by decide), onesRow⟩, ⟨Rect.unit ![2, 0, 0] S1x64x1024.size (by decide), Z⟩,
   ⟨Rect.unit ![1, 64, 0] S1x16x9216.size (by decide), onesRow⟩, ⟨Rect.unit ![1, 0, 0] S1x64x1024.size (by decide), Z⟩,
   ⟨Rect.unit ![0, 64, 0] S1x16x9216.size (by decide), onesRow⟩, ⟨Rect.unit ![0, 0, 0] S1x64x1024.size (by decide), Z⟩]

/-- The pieces written in the two buffers at the first point. -/
theorem bufsA (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    (∃ L, (runA c i arg2 harg2 arg3 harg3 arg4 harg4 arg5 harg5 arg6 harg6 arg7 harg7 arg8 harg8 arg9 harg9 arg10 harg10 arg11 harg11 arg12 harg12 hc x0 x1 x2 x3 x4 x5 k0 v0).1.2.1 = keyPieces i (View.readAt (Elt F) arg6.view (Rect.unit (s := S1x256x256) ![0, 0, 0] S1x256x256.size (by decide)).toLoadRect (harg6.unread x4)) ++ L)
    ∧ ∃ Z, (runA c i arg2 harg2 arg3 harg3 arg4 harg4 arg5 harg5 arg6 harg6 arg7 harg7 arg8 harg8 arg9 harg9 arg10 harg10 arg11 harg11 arg12 harg12 hc x0 x1 x2 x3 x4 x5 k0 v0).1.2.2 = valPieces i (View.readAt (Elt F) arg7.view (Rect.unit (s := S1x256x256) ![0, 0, 0] S1x256x256.size (by decide)).toLoadRect (harg7.unread x5)) ++ padPieces Z :=
  ⟨⟨_, rfl⟩, ⟨_, rfl⟩⟩

/-- The pieces written in the two buffers at any other point. -/
theorem bufsB (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : ¬cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    (runB c i arg2 harg2 arg3 harg3 arg4 harg4 arg5 harg5 arg6 harg6 arg7 harg7 arg8 harg8 arg9 harg9 arg10 harg10 arg11 harg11 arg12 harg12 hc x0 x1 x2 x3 x4 x5 k0 v0).1.2.1 = keyPieces i (View.readAt (Elt F) arg6.view (Rect.unit (s := S1x256x256) ![0, 0, 0] S1x256x256.size (by decide)).toLoadRect (harg6.unread x4)) ++ []
    ∧ (runB c i arg2 harg2 arg3 harg3 arg4 harg4 arg5 harg5 arg6 harg6 arg7 harg7 arg8 harg8 arg9 harg9 arg10 harg10 arg11 harg11 arg12 harg12 hc x0 x1 x2 x3 x4 x5 k0 v0).1.2.2 = valPieces i (View.readAt (Elt F) arg7.view (Rect.unit (s := S1x256x256) ![0, 0, 0] S1x256x256.size (by decide)).toLoadRect (harg7.unread x5)) ++ [] :=
  ⟨rfl, rfl⟩

end

/-- Row 64 of every group is 1 from column 1024 on, after the first point's writes. -/
theorem pad_ones {σ : RefSig} {κ : Kind} {sp : Space} (v : View σ κ sp S4x80x9216 .bf16) (f : v.ty.Contents (Elt Ideal)) (Z) (g : Fin 4) (p : Fin 9216) (hp : 1024 ≤ p.val) :
    v.read (Elt Ideal) (v.writes (Elt Ideal) f (padPieces Z)) (ix3 g 64 p) = (1 : EReal) := by
  unfold padPieces
  fin_cases g
  · rw [read_outside v f _ _ _ _ rfl, read_outside v f _ _ _ _ rfl, read_outside v f _ _ _ _ rfl, read_outside v f _ _ _ _ rfl, read_outside v f _ _ _ _ rfl, read_outside v f _ _ _ _ rfl, read_inside v f _ _ _ _ rfl _ _ _ _ _ _ (0 : Fin 16) p]
    · exact onesRow_at p hp
    all_goals simp
  · rw [read_outside v f _ _ _ _ rfl, read_outside v f _ _ _ _ rfl, read_outside v f _ _ _ _ rfl, read_outside v f _ _ _ _ rfl, read_inside v f _ _ _ _ rfl _ _ _ _ _ _ (0 : Fin 16) p]
    · exact onesRow_at p hp
    all_goals simp
  · rw [read_outside v f _ _ _ _ rfl, read_outside v f _ _ _ _ rfl, read_inside v f _ _ _ _ rfl _ _ _ _ _ _ (0 : Fin 16) p]
    · exact onesRow_at p hp
    all_goals simp
  · rw [read_inside v f _ _ _ _ rfl _ _ _ _ _ _ (0 : Fin 16) p]
    · exact onesRow_at p hp
    all_goals simp

end Cert.KernelIdeal.Body

end
-- ==== Proof.KernelIdeal.PiecesA.lean ====
module

public import proofs.«01_k».proof.Proof.KernelIdeal.Piece

@[expose] public section

set_option maxRecDepth 1000000

noncomputable section

/-! Every piece of the output block one run of the body stores is the work on one block of queries and one group of heads. -/

namespace Cert.KernelIdeal.Body

open Cert.KernelIdeal.Gen
open Idealize.ShloMosaic Idealize.ShloMosaic.TcCoe Idealize.SL.Sem

variable {F : FTy → Type} [FloatOps F] [Named F]

set_option maxHeartbeats 40000000 in
/-- The pieces stored in the output block by one run of the body at the first point, one per query block, group and head pair. -/
theorem piecesA (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    List.Forall₂ (IsUnit i x0 x1 x2 x3
        (arg9.view.read (Elt F) (arg9.view.writes (Elt F) (harg9.unread k0) (runA c i arg2 harg2 arg3 harg3 arg4 harg4 arg5 harg5 arg6 harg6 arg7 harg7 arg8 harg8 arg9 harg9 arg10 harg10 arg11 harg11 arg12 harg12 hc x0 x1 x2 x3 x4 x5 k0 v0).1.2.1))
        (arg10.view.read (Elt F) (arg10.view.writes (Elt F) (harg10.unread v0) (runA c i arg2 harg2 arg3 harg3 arg4 harg4 arg5 harg5 arg6 harg6 arg7 harg7 arg8 harg8 arg9 harg9 arg10 harg10 arg11 harg11 arg12 harg12 hc x0 x1 x2 x3 x4 x5 k0 v0).1.2.2)))
      order (runA c i arg2 harg2 arg3 harg3 arg4 harg4 arg5 harg5 arg6 harg6 arg7 harg7 arg8 harg8 arg9 harg9 arg10 harg10 arg11 harg11 arg12 harg12 hc x0 x1 x2 x3 x4 x5 k0 v0).1.1 := by
  have hj : (i 1).val < 32 := (i 1).isLt
  unfold order
  refine List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.nil))))))))))))))))))))))))))))))))
  rotate_left 28
  iterate 2
    · refine ⟨by decide, runA.sl.v86 i, (View.readAt (Elt F) arg9.view (Rect.unit (s := S4x9216x128) (k0_off10 i 0#32) S1x1088x128.size (k0_off10_inb i 0)).toLoadRect (arg9.view.writes (Elt F) (harg9.unread k0) (runA.sl.HK_8 c i arg6 harg6 x4))), (View.readAt (Elt F) arg5.view (Rect.unit (s := S1x256x1024) ![0, 0, 256] S1x64x256.size inb_S1x256x1024_S1x64x256_0_0_256).toLoadRect (harg5.unread x3)), runA.sl.r_8 c arg2 harg2 x0, runA.sl.r_10 c arg2 harg2 x0, runA.sl.r_11 c arg2 harg2 x0, runA.sl.r_12 c arg2 harg2 x0, runA.sl.r_9 c arg3 harg3 x1, _, _, _, rfl, ?_⟩
      refine ⟨?_, ?_, ?_, ?_, ?_, ?_, ?_, ?_, ?_, ?_, ?_⟩
      · exact (View.readCov_full _ _ _ _ _).trans (shapeCast_self _ _)
      · rfl
      · intro r l
        have := r.isLt
        refine window_at _ _ _ _ _ (by first | exact k0_off9_eq i 0 | exact k0_off10_eq i 0 | exact k0_off12_eq i 0 | exact k0_off14_eq i 0 | exact k0_off9_eq i 1 | exact k0_off10_eq i 1 | exact k0_off12_eq i 1 | exact k0_off14_eq i 1 | exact k0_off9_eq i 2 | exact k0_off10_eq i 2 | exact k0_off12_eq i 2 | exact k0_off14_eq i 2 | exact k0_off9_eq i 3 | exact k0_off10_eq i 3 | exact k0_off12_eq i 3 | exact k0_off14_eq i 3) _ _ _ _ _ _ _ ?_ ?_ ?_ <;> (try dsimp only) <;> (try simp only [Fin.val_ofNat, Fin.isValue]) <;> omega
      · intro r l
        have := r.isLt
        have := l.isLt
        refine (harg5.readAt_unread x3 _ _).trans (window_at _ _ _ _ _ rfl _ _ _ _ _ _ _ ?_ ?_ ?_) <;> (try dsimp only) <;> (try simp only [Fin.val_ofNat, Fin.isValue]) <;> omega
      · intro d r
        have := r.isLt
        refine window_at _ _ _ _ _ (by first | exact k0_off11_eq i 0 | exact k0_off13_eq i 0 | exact k0_off15_eq i 0 | exact k0_off16_eq i 0 | exact k0_off11_eq i 1 | exact k0_off13_eq i 1 | exact k0_off15_eq i 1 | exact k0_off16_eq i 1) _ _ _ _ _ _ _ ?_ ?_ ?_ <;> (try dsimp only) <;> (try simp only [Fin.val_ofNat, Fin.isValue]) <;> omega
      iterate 4 exact (harg2.readAt_unread x0 _ _).trans (scalar_at _ _ _ _ _ rfl)
      · exact (harg3.readAt_unread x1 _ _).trans (scalar_at _ _ _ _ _ rfl)
      · exact (harg4.readAt_unread x2 _ _).trans (scalar_at _ _ _ _ _ rfl)
  all_goals
    refine ⟨by decide, _, _, _, _, _, _, _, _, _, _, _, rfl, ?_, ?_, ?_, ?_, ?_, ?_, ?_, ?_, ?_, ?_, ?_⟩
    · exact (View.readCov_full _ _ _ _ _).trans (shapeCast_self _ _)
    · rfl
    · intro r l
      have := r.isLt
      refine window_at _ _ _ _ _ (by first | exact k0_off9_eq i 0 | exact k0_off10_eq i 0 | exact k0_off12_eq i 0 | exact k0_off14_eq i 0 | exact k0_off9_eq i 1 | exact k0_off10_eq i 1 | exact k0_off12_eq i 1 | exact k0_off14_eq i 1 | exact k0_off9_eq i 2 | exact k0_off10_eq i 2 | exact k0_off12_eq i 2 | exact k0_off14_eq i 2 | exact k0_off9_eq i 3 | exact k0_off10_eq i 3 | exact k0_off12_eq i 3 | exact k0_off14_eq i 3) _ _ _ _ _ _ _ ?_ ?_ ?_ <;> (try dsimp only) <;> (try simp only [Fin.val_ofNat, Fin.isValue]) <;> omega
    · intro r l
      have := r.isLt
      have := l.isLt
      refine (harg5.readAt_unread x3 _ _).trans (window_at _ _ _ _ _ rfl _ _ _ _ _ _ _ ?_ ?_ ?_) <;> (try dsimp only) <;> (try simp only [Fin.val_ofNat, Fin.isValue]) <;> omega
    · intro d r
      have := r.isLt
      refine window_at _ _ _ _ _ (by first | exact k0_off11_eq i 0 | exact k0_off13_eq i 0 | exact k0_off15_eq i 0 | exact k0_off16_eq i 0 | exact k0_off11_eq i 1 | exact k0_off13_eq i 1 | exact k0_off15_eq i 1 | exact k0_off16_eq i 1) _ _ _ _ _ _ _ ?_ ?_ ?_ <;> (try dsimp only) <;> (try simp only [Fin.val_ofNat, Fin.isValue]) <;> omega
    iterate 4 exact (harg2.readAt_unread x0 _ _).trans (scalar_at _ _ _ _ _ rfl)
    · exact (harg3.readAt_unread x1 _ _).trans (scalar_at _ _ _ _ _ rfl)
    · exact (harg4.readAt_unread x2 _ _).trans (scalar_at _ _ _ _ _ rfl)

end Cert.KernelIdeal.Body

end
-- ==== Proof.KernelIdeal.PiecesB.lean ====
module

public import proofs.«01_k».proof.Proof.KernelIdeal.Piece

@[expose] public section

set_option maxRecDepth 1000000

noncomputable section

/-! Every piece of the output block one run of the body stores is the work on one block of queries and one group of heads. -/

namespace Cert.KernelIdeal.Body

open Cert.KernelIdeal.Gen
open Idealize.ShloMosaic Idealize.ShloMosaic.TcCoe Idealize.SL.Sem

variable {F : FTy → Type} [FloatOps F] [Named F]

set_option maxHeartbeats 40000000 in
/-- The pieces stored in the output block by one run of the body at a point other than the first, one per query block, group and head pair. -/
theorem piecesB (c : Dev nD) (i : grid0.Coords) (arg2 : Memref sig .tc .smem S16 .f32) (harg2 : arg2.IsWhole) (arg3 : Memref sig .tc .smem S4 .f32) (harg3 : arg3.IsWhole) (arg4 : Memref sig .tc .smem S4 .f32) (harg4 : arg4.IsWhole) (arg5 : Memref sig .tc .vmem S1x256x1024 .fp8e4m3) (harg5 : arg5.IsWhole) (arg6 : Memref sig .tc .vmem S1x256x256 .fp8e4m3) (harg6 : arg6.IsWhole) (arg7 : Memref sig .tc .vmem S1x256x256 .fp8e4m3) (harg7 : arg7.IsWhole) (arg8 : Memref sig .tc .vmem S1x256x1024 .bf16) (harg8 : arg8.IsWhole) (arg9 : Memref sig .tc .vmem S4x9216x128 .fp8e4m3) (harg9 : arg9.IsWhole) (arg10 : Memref sig .tc .vmem S4x80x9216 .bf16) (harg10 : arg10.IsWhole) (arg11 : Memref sig .tc .vmem S1088x256 .f32) (harg11 : arg11.IsWhole) (arg12 : Memref sig .tc .vmem S1088x256 .f32) (harg12 : arg12.IsWhole)
    (hc : ¬cond i) (x0 : Vec F S16 .f32) (x1 : Vec F S4 .f32) (x2 : Vec F S4 .f32) (x3 : Vec F S1x256x1024 .fp8e4m3) (x4 : Vec F S1x256x256 .fp8e4m3) (x5 : Vec F S1x256x256 .fp8e4m3) (k0 : Vec F S4x9216x128 .fp8e4m3) (v0 : Vec F S4x80x9216 .bf16) :
    List.Forall₂ (IsUnit i x0 x1 x2 x3
        (arg9.view.read (Elt F) (arg9.view.writes (Elt F) (harg9.unread k0) (runB c i arg2 harg2 arg3 harg3 arg4 harg4 arg5 harg5 arg6 harg6 arg7 harg7 arg8 harg8 arg9 harg9 arg10 harg10 arg11 harg11 arg12 harg12 hc x0 x1 x2 x3 x4 x5 k0 v0).1.2.1))
        (arg10.view.read (Elt F) (arg10.view.writes (Elt F) (harg10.unread v0) (runB c i arg2 harg2 arg3 harg3 arg4 harg4 arg5 harg5 arg6 harg6 arg7 harg7 arg8 harg8 arg9 harg9 arg10 harg10 arg11 harg11 arg12 harg12 hc x0 x1 x2 x3 x4 x5 k0 v0).1.2.2)))
      order (runB c i arg2 harg2 arg3 harg3 arg4 harg4 arg5 harg5 arg6 harg6 arg7 harg7 arg8 harg8 arg9 harg9 arg10 harg10 arg11 harg11 arg12 harg12 hc x0 x1 x2 x3 x4 x5 k0 v0).1.1 := by
  have hj : (i 1).val < 32 := (i 1).isLt
  unfold order
  refine List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.cons ?_ (List.Forall₂.nil))))))))))))))))))))))))))))))))
  rotate_left 28
  iterate 2
    · refine ⟨by decide, runB.sl.v86 i, (View.readAt (Elt F) arg9.view (Rect.unit (s := S4x9216x128) (k0_off10 i 0#32) S1x1088x128.size (k0_off10_inb i 0)).toLoadRect (arg9.view.writes (Elt F) (harg9.unread k0) (runB.sl.HK_4 c i arg6 harg6 x4))), (View.readAt (Elt F) arg5.view (Rect.unit (s := S1x256x1024) ![0, 0, 256] S1x64x256.size inb_S1x256x1024_S1x64x256_0_0_256).toLoadRect (harg5.unread x3)), runB.sl.r_8 c arg2 harg2 x0, runB.sl.r_10 c arg2 harg2 x0, runB.sl.r_11 c arg2 harg2 x0, runB.sl.r_12 c arg2 harg2 x0, runB.sl.r_9 c arg3 harg3 x1, _, _, _, rfl, ?_⟩
      refine ⟨?_, ?_, ?_, ?_, ?_, ?_, ?_, ?_, ?_, ?_, ?_⟩
      · exact (View.readCov_full _ _ _ _ _).trans (shapeCast_self _ _)
      · rfl
      · intro r l
        have := r.isLt
        refine window_at _ _ _ _ _ (by first | exact k0_off9_eq i 0 | exact k0_off10_eq i 0 | exact k0_off12_eq i 0 | exact k0_off14_eq i 0 | exact k0_off9_eq i 1 | exact k0_off10_eq i 1 | exact k0_off12_eq i 1 | exact k0_off14_eq i 1 | exact k0_off9_eq i 2 | exact k0_off10_eq i 2 | exact k0_off12_eq i 2 | exact k0_off14_eq i 2 | exact k0_off9_eq i 3 | exact k0_off10_eq i 3 | exact k0_off12_eq i 3 | exact k0_off14_eq i 3) _ _ _ _ _ _ _ ?_ ?_ ?_ <;> (try dsimp only) <;> (try simp only [Fin.val_ofNat, Fin.isValue]) <;> omega
      · intro r l
        have := r.isLt
        have := l.isLt
        refine (harg5.readAt_unread x3 _ _).trans (window_at _ _ _ _ _ rfl _ _ _ _ _ _ _ ?_ ?_ ?_) <;> (try dsimp only) <;> (try simp only [Fin.val_ofNat, Fin.isValue]) <;> omega
      · intro d r
        have := r.isLt
        refine window_at _ _ _ _ _ (by first | exact k0_off11_eq i 0 | exact k0_off13_eq i 0 | exact k0_off15_eq i 0 | exact k0_off16_eq i 0 | exact k0_off11_eq i 1 | exact k0_off13_eq i 1 | exact k0_off15_eq i 1 | exact k0_off16_eq i 1) _ _ _ _ _ _ _ ?_ ?_ ?_ <;> (try dsimp only) <;> (try simp only [Fin.val_ofNat, Fin.isValue]) <;> omega
      iterate 4 exact (harg2.readAt_unread x0 _ _).trans (scalar_at _ _ _ _ _ rfl)
      · exact (harg3.readAt_unread x1 _ _).trans (scalar_at _ _ _ _ _ rfl)
      · exact (harg4.readAt_unread x2 _ _).trans (scalar_at _ _ _ _ _ rfl)
  all_goals
    refine ⟨by decide, _, _, _, _, _, _, _, _, _, _, _, rfl, ?_, ?_, ?_, ?_, ?_, ?_, ?_, ?_, ?_, ?_, ?_⟩
    · exact (View.readCov_full _ _ _ _ _).trans (shapeCast_self _ _)
    · rfl
    · intro r l
      have := r.isLt
      refine window_at _ _ _ _ _ (by first | exact k0_off9_eq i 0 | exact k0_off10_eq i 0 | exact k0_off12_eq i 0 | exact k0_off14_eq i 0 | exact k0_off9_eq i 1 | exact k0_off10_eq i 1 | exact k0_off12_eq i 1 | exact k0_off14_eq i 1 | exact k0_off9_eq i 2 | exact k0_off10_eq i 2 | exact k0_off12_eq i 2 | exact k0_off14_eq i 2 | exact k0_off9_eq i 3 | exact k0_off10_eq i 3 | exact k0_off12_eq i 3 | exact k0_off14_eq i 3) _ _ _ _ _ _ _ ?_ ?_ ?_ <;> (try dsimp only) <;> (try simp only [Fin.val_ofNat, Fin.isValue]) <;> omega
    · intro r l
      have := r.isLt
      have := l.isLt
      refine (harg5.readAt_unread x3 _ _).trans (window_at _ _ _ _ _ rfl _ _ _ _ _ _ _ ?_ ?_ ?_) <;> (try dsimp only) <;> (try simp only [Fin.val_ofNat, Fin.isValue]) <;> omega
    · intro d r
      have := r.isLt
      refine window_at _ _ _ _ _ (by first | exact k0_off11_eq i 0 | exact k0_off13_eq i 0 | exact k0_off15_eq i 0 | exact k0_off16_eq i 0 | exact k0_off11_eq i 1 | exact k0_off13_eq i 1 | exact k0_off15_eq i 1 | exact k0_off16_eq i 1) _ _ _ _ _ _ _ ?_ ?_ ?_ <;> (try dsimp only) <;> (try simp only [Fin.val_ofNat, Fin.isValue]) <;> omega
    iterate 4 exact (harg2.readAt_unread x0 _ _).trans (scalar_at _ _ _ _ _ rfl)
    · exact (harg3.readAt_unread x1 _ _).trans (scalar_at _ _ _ _ _ rfl)
    · exact (harg4.readAt_unread x2 _ _).trans (scalar_at _ _ _ _ _ rfl)

end Cert.KernelIdeal.Body

end
-- ==== Proof.KernelIdeal.Block.lean ====
module

public import proofs.«01_k».proof.Proof.KernelIdeal.Chunk
public import proofs.«01_k».proof.Proof.KernelIdeal.Bufs
public import proofs.«01_k».proof.Proof.KernelIdeal.PiecesA
public import proofs.«01_k».proof.Proof.KernelIdeal.PiecesB
public import proofs.«01_k».proof.Proof.KernelIdeal.At

@[expose] public section

set_option maxRecDepth 16384

noncomputable section

/-! The output block after one run of the body is the attention layer's result, and the two buffers hold one more chunk. -/

namespace Cert.KernelIdeal.Body

open Cert.KernelIdeal.Gen
open Idealize.ShloMosaic Idealize.ShloMosaic.TcCoe Idealize.ShloMosaic.Tactic Idealize.SL.Sem

/-- A member on the right has a related member on the left. -/
theorem forall₂_right {α β : Type} {R : α → β → Prop} {a : List α} {b : List β} (h : List.Forall₂ R a b) : ∀ p ∈ b, ∃ u ∈ a, R u p := by
  induction h with
  | nil => simp
  | cons h _ ih =>
    intro p hp
    rcases List.mem_cons.mp hp with rfl | hp
    · exact ⟨_, by simp, h⟩
    · obtain ⟨u, hu, hr⟩ := ih p hp
      exact ⟨u, by simp [hu], hr⟩

/-- A member on the left has a related member on the right. -/
theorem forall₂_left {α β : Type} {R : α → β → Prop} {a : List α} {b : List β} (h : List.Forall₂ R a b) : ∀ u ∈ a, ∃ p ∈ b, R u p :=
  forall₂_right h.flip

/-- Every unit in the order has a chunk and a key head below 4. -/
theorem order_bound : ∀ u ∈ order, u.1 < 4 ∧ u.2.1 < 4 := by decide

/-- Every unit is in the order. -/
theorem order_all (t g : Fin 4) (snd : Bool) : (t.val, g.val, snd) ∈ order := by
  revert t g snd; decide

/-- The output block read after the stores of all units is the layer's result. -/
theorem block_layer (i : grid0.Coords) (n : Fin 8) (A0 : Vec Ideal S8x8192x1024 .fp8e4m3) (A1 A2 : Vec Ideal S8x8192x256 .fp8e4m3) (x0 : Vec Ideal S16 .f32) (x1 x2 : Vec Ideal S4 .f32)
    (x3 : Vec Ideal S1x256x1024 .fp8e4m3) (K : Vec Ideal S4x9216x128 .fp8e4m3) (V : Vec Ideal S4x80x9216 .bf16) (L : List (View.Piece (Elt Ideal) S1x256x1024 .bf16))
    (hL : List.Forall₂ (IsUnit i x0 x1 x2 x3 K V) order L)
    (hx : ∀ (r : Fin 256) (l : Fin 1024) (pos : Fin 8192), pos.val = 256 * (i 1).val + r.val → x3 (ix3 0 r l) = A0 (ix3 n pos l))
    (hK : HoldsK A1 n (256 * (i 1).val + 256) K) (hV : HoldsV A2 n (256 * (i 1).val + 256) V) (hO : HoldsOne V)
    {σ : RefSig} {κ : Kind} {sp : Space} (v : View σ κ sp S1x256x1024 .bf16) (f : v.ty.Contents (Elt Ideal)) (r : Fin 256) (l : Fin 1024) :
    v.read (Elt Ideal) (v.writes (Elt Ideal) f L) (ix3 0 r l) = Softmax.layer A0 A1 A2 x0 x1 x2 n (Fin.ofNat 8192 (256 * (i 1).val + r.val)) l := by
  have hj : (i 1).val < 32 := (i 1).isLt
  have hp : ∀ (u : ℕ × ℕ × Bool), u ∈ order → ∀ p, IsUnit i x0 x1 x2 x3 K V u p → _ := fun u hu p h =>
    unit_layer i n A0 A1 A2 x0 x1 x2 x3 K V u.1 u.2.1 u.2.2 (order_bound u hu).1 (order_bound u hu).2 p h hx hK hV hO
  have hcov : ∃ p ∈ L, (ix3 0 r l : S1x256x1024.Idx) ∈ p.1.set := by
    obtain ⟨p, hpL, hu⟩ := forall₂_left hL _ (order_all (⟨r.val / 64, by omega⟩ : Fin 4) (⟨l.val / 256, by omega⟩ : Fin 4) (decide (128 ≤ l.val % 256)))
    obtain ⟨h, w, rfl, -⟩ := hp _ (order_all _ _ _) p hu
    refine ⟨_, hpL, ?_⟩
    rw [Rect.mem_set_unit]
    have hb : 128 * (decide (128 ≤ l.val % 256)).toNat = if 128 ≤ l.val % 256 then 128 else 0 := by split <;> simp [*]
    intro a
    fin_cases a
    · show 0 ≤ 0 ∧ 0 < 0 + 1; omega
    · show 64 * (r.val / 64) ≤ r.val ∧ r.val < 64 * (r.val / 64) + 64; omega
    · show 256 * (l.val / 256) + 128 * (decide (128 ≤ l.val % 256)).toNat ≤ l.val ∧ l.val < 256 * (l.val / 256) + 128 * (decide (128 ≤ l.val % 256)).toNat + 128
      rw [hb]; split <;> omega
  rw [View.read_writes_apply_eq_canon v f _ _ hcov]
  refine View.canon_apply_of_pieces (fun y : S1x256x1024.Idx => (Softmax.layer A0 A1 A2 x0 x1 x2 n (Fin.ofNat 8192 (256 * (i 1).val + (y 1).val)) (y 2) : EReal)) L (fun p hpL x => ?_) _ hcov
  obtain ⟨⟨t, g, snd⟩, hu, h⟩ := forall₂_right hL p hpL
  obtain ⟨h', w, rfl, hw⟩ := hp _ hu p h
  have hb := order_bound _ hu
  have hs : snd.toNat < 2 := by cases snd <;> simp
  dsimp only at *
  have hx' : x = (ix3 0 (x 1 : Fin 64) (x 2 : Fin 128) : S1x64x128.Idx) := by
    funext a; fin_cases a
    · exact Subsingleton.elim (α := Fin 1) _ _
    · rfl
    · rfl
  have h1 : (x 1 : Fin 64).val < 64 := (x 1 : Fin 64).isLt
  have e1 : (((Rect.unit (s := S1x256x1024) ![0, 64 * t, 256 * g + 128 * snd.toNat] S1x64x128.size h').emb x) 1).val = 64 * t + 1 * (x 1 : Fin 64).val := rfl
  have e2 : (((Rect.unit (s := S1x256x1024) ![0, 64 * t, 256 * g + 128 * snd.toNat] S1x64x128.size h').emb x) 2).val = (256 * g + 128 * snd.toNat) + 1 * (x 2 : Fin 128).val := rfl
  refine (congrArg w hx').trans (hw _ _ _ _ ?_ ?_)
  · simp only [Fin.val_ofNat, e1]; omega
  · rw [e2]; omega

end Cert.KernelIdeal.Body

end
-- ==== Proof.KernelIdeal.Step.lean ====
module

public import proofs.«01_k».proof.Proof.KernelIdeal.Block

@[expose] public section

set_option maxRecDepth 16384

noncomputable section

/-! One grid point: the two buffers keep their invariant, and the output block is the layer's result. -/

namespace Cert.KernelIdeal.Body

open Cert.KernelIdeal.Gen
open Idealize.ShloMosaic Idealize.ShloMosaic.TcCoe Idealize.ShloMosaic.Tactic Idealize.SL.Sem

variable (m : (ℓ : Loc nD τ sig) → Buf (Elt Ideal) ℓ)

/-- The argument arrays. -/
abbrev A0 (c : Dev nD) : Vec Ideal S8x8192x1024 .fp8e4m3 := m ((c : Thread nD τ).loc main_arg0)
abbrev A1 (c : Dev nD) : Vec Ideal S8x8192x256 .fp8e4m3 := m ((c : Thread nD τ).loc main_arg1)
abbrev A2 (c : Dev nD) : Vec Ideal S8x8192x256 .fp8e4m3 := m ((c : Thread nD τ).loc main_arg2)
abbrev A3 (c : Dev nD) : Vec Ideal S16 .f32 := m ((c : Thread nD τ).loc main_arg3)
abbrev A4 (c : Dev nD) : Vec Ideal S4 .f32 := m ((c : Thread nD τ).loc main_arg4)
abbrev A5 (c : Dev nD) : Vec Ideal S4 .f32 := m ((c : Thread nD τ).loc main_arg5)

/-- What the two buffers hold after `s` grid points: the keys and values of the chunks of the current batch entry so far, and the ones. -/
def Inv (c : Dev nD) (s : ℕ) (K : Vec Ideal S4x9216x128 .fp8e4m3) (V : Vec Ideal S4x80x9216 .bf16) : Prop :=
  HoldsK (A1 m c) (Fin.ofNat 8 (s / 32)) (256 * (s % 32)) K ∧ HoldsV (A2 m c) (Fin.ofNat 8 (s / 32)) (256 * (s % 32)) V ∧ (s ≠ 0 → HoldsOne V)

/-- Before the first point the invariant holds of anything. -/
theorem inv_zero (c : Dev nD) (K V) : Inv m c 0 K V :=
  ⟨fun _ _ _ _ _ _ h => absurd h (by simp), fun _ _ _ _ _ _ _ h => absurd h (by simp), fun h => absurd rfl h⟩

theorem coords0 : ∀ t : Fin grid0.N, (grid0.coords t 0).val = t.val / 32 := by decide +kernel
theorem coords1 : ∀ t : Fin grid0.N, (grid0.coords t 1).val = t.val % 32 := by decide +kernel
theorem idx0 : ∀ t : Fin grid0.N, win0_0.index t = ![0] := by decide +kernel
theorem idx1 : ∀ t : Fin grid0.N, win0_1.index t = ![0] := by decide +kernel
theorem idx2 : ∀ t : Fin grid0.N, win0_2.index t = ![0] := by decide +kernel
theorem idx3 : ∀ t : Fin grid0.N, win0_3.index t = ![t.val / 32, t.val % 32, 0] := by decide +kernel
theorem idx4 : ∀ t : Fin grid0.N, win0_4.index t = ![t.val / 32, t.val % 32, 0] := by decide +kernel
theorem idx5 : ∀ t : Fin grid0.N, win0_5.index t = ![t.val / 32, t.val % 32, 0] := by decide +kernel
theorem idx6 : ∀ t : Fin grid0.N, win0_6.index t = ![t.val / 32, t.val % 32, 0] := by decide +kernel
/-- The buffers are initialised at the first point only. -/
theorem cond_iff : ∀ t : Fin grid0.N, cond (grid0.coords t) ↔ t.val = 0 := by decide +kernel

theorem blk0 (c : Dev nD) (t : Fin cfg0.N) : iblk m c 0 t = A3 m c := by
  funext y; idx_vars y; blk_ext [iblk, V, idx0 t]
theorem blk1 (c : Dev nD) (t : Fin cfg0.N) : iblk m c 1 t = A4 m c := by
  funext y; idx_vars y; blk_ext [iblk, V, idx1 t]
theorem blk2 (c : Dev nD) (t : Fin cfg0.N) : iblk m c 2 t = A5 m c := by
  funext y; idx_vars y; blk_ext [iblk, V, idx2 t]
theorem blk3 (c : Dev nD) (t : Fin cfg0.N) (r : Fin 256) (l : Fin 1024) (n : Fin 8) (pos : Fin 8192) (hn : n.val = t.val / 32) (hp : pos.val = 256 * (t.val % 32) + r.val) :
    (iblk m c 3 t : Vec Ideal S1x256x1024 .fp8e4m3) (ix3 0 r l) = A0 m c (ix3 n pos l) := by
  blk_ext [iblk, V, idx3 t]
theorem blk4 (c : Dev nD) (t : Fin cfg0.N) (r : Fin 256) (l : Fin 256) (n : Fin 8) (pos : Fin 8192) (hn : n.val = t.val / 32) (hp : pos.val = 256 * (t.val % 32) + r.val) :
    (iblk m c 4 t : Vec Ideal S1x256x256 .fp8e4m3) (ix3 0 r l) = A1 m c (ix3 n pos l) := by
  blk_ext [iblk, V, idx4 t]
theorem blk5 (c : Dev nD) (t : Fin cfg0.N) (r : Fin 256) (l : Fin 256) (n : Fin 8) (pos : Fin 8192) (hn : n.val = t.val / 32) (hp : pos.val = 256 * (t.val % 32) + r.val) :
    (iblk m c 5 t : Vec Ideal S1x256x256 .fp8e4m3) (ix3 0 r l) = A2 m c (ix3 n pos l) := by
  blk_ext [iblk, V, idx5 t]

/-- The block the body loads whole is the block. -/
theorem whole_at {sp : Space} (M : Memref sig .tc sp S1x256x256 .fp8e4m3) (hM : M.IsWhole) (x : Vec Ideal S1x256x256 .fp8e4m3) (r l : Fin 256) (inb) :
    View.readAt (Elt Ideal) M.view (Rect.unit (s := S1x256x256) ![0, 0, 0] S1x256x256.size inb).toLoadRect (hM.unread x) (ix3 0 r l) = x (ix3 0 r l) :=
  (hM.readAt_unread x _ _).trans (window_at x _ 0 0 0 rfl _ _ _ _ _ _ _ (by simp) (by simp) (by simp))

section
variable (c : Dev nD) (t : Fin cfg0.N) (x0 : Vec Ideal S16 .f32) (x1 : Vec Ideal S4 .f32) (x2 : Vec Ideal S4 .f32) (x3 : Vec Ideal S1x256x1024 .fp8e4m3) (x4 : Vec Ideal S1x256x256 .fp8e4m3) (x5 : Vec Ideal S1x256x256 .fp8e4m3) (k0 : Vec Ideal S4x9216x128 .fp8e4m3) (v0 : Vec Ideal S4x80x9216 .bf16)

/-- The key buffer after the run at point `t`. -/
abbrev newK : Vec Ideal S4x9216x128 .fp8e4m3 := sc0.view.read (Elt Ideal) (sc0.view.writes (Elt Ideal) ((Memref.isWhole_whole cc0_scratch0).unread k0) (left c t x0 x1 x2 x3 x4 x5 k0 v0).2.1)
/-- The value buffer after it. -/
abbrev newV : Vec Ideal S4x80x9216 .bf16 := sc1.view.read (Elt Ideal) (sc1.view.writes (Elt Ideal) ((Memref.isWhole_whole cc0_scratch1).unread v0) (left c t x0 x1 x2 x3 x4 x5 k0 v0).2.2)

/-- The pieces the body leaves in the output block are the units of the new buffers. -/
theorem left_pieces : List.Forall₂ (IsUnit (grid0.coords t) x0 x1 x2 x3 (newK c t x0 x1 x2 x3 x4 x5 k0 v0) (newV c t x0 x1 x2 x3 x4 x5 k0 v0)) order (left c t x0 x1 x2 x3 x4 x5 k0 v0).1 := by
  unfold newK newV
  by_cases hc : cond (grid0.coords t)
  · rw [show left c t x0 x1 x2 x3 x4 x5 k0 v0 = (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 from dif_pos hc]
    exact piecesA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0
  · rw [show left c t x0 x1 x2 x3 x4 x5 k0 v0 = (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 from dif_neg hc]
    exact piecesB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0

/-- What the body leaves in the two buffers is a list of writes. -/
theorem left_lists : (∃ L, (left c t x0 x1 x2 x3 x4 x5 k0 v0).2.1 = keyPieces (grid0.coords t) (View.readAt (Elt Ideal) (ms4 t).view (Rect.unit (s := S1x256x256) ![0, 0, 0] S1x256x256.size (by decide)).toLoadRect ((hs4 t).unread x4)) ++ L ∧ (¬cond (grid0.coords t) → L = []))
    ∧ ∃ L, (left c t x0 x1 x2 x3 x4 x5 k0 v0).2.2 = valPieces (grid0.coords t) (View.readAt (Elt Ideal) (ms5 t).view (Rect.unit (s := S1x256x256) ![0, 0, 0] S1x256x256.size (by decide)).toLoadRect ((hs5 t).unread x5)) ++ L
        ∧ (¬cond (grid0.coords t) → L = []) ∧ (cond (grid0.coords t) → ∃ Z, L = padPieces Z) := by
  by_cases hc : cond (grid0.coords t)
  · rw [show left c t x0 x1 x2 x3 x4 x5 k0 v0 = (runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 from dif_pos hc]
    obtain ⟨⟨L, hL⟩, Z, hZ⟩ := bufsA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0
    exact ⟨⟨L, hL, fun h => absurd hc h⟩, _, hZ, fun h => absurd hc h, fun _ => ⟨Z, rfl⟩⟩
  · rw [show left c t x0 x1 x2 x3 x4 x5 k0 v0 = (runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0).1 from dif_neg hc]
    have h := bufsB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) hc x0 x1 x2 x3 x4 x5 k0 v0
    exact ⟨⟨[], h.1, fun _ => rfl⟩, [], h.2, fun _ => rfl, fun h => absurd h hc⟩

/-- After the body the key buffer holds the chunk too. -/
theorem new_holdsK (A : Vec Ideal S8x8192x256 .fp8e4m3) (n : Fin 8) (hold : t.val ≠ 0 → HoldsK A n (256 * (t.val % 32)) k0)
    (hx : ∀ (r l : Fin 256) (κ : Fin 8192), κ.val = 256 * (t.val % 32) + r.val → x4 (ix3 0 r l) = A (ix3 n κ l)) :
    HoldsK A n (256 * (t.val % 32) + 256) (newK c t x0 x1 x2 x3 x4 x5 k0 v0) := by
  obtain ⟨⟨L, hL, hn⟩, -⟩ := left_lists c t x0 x1 x2 x3 x4 x5 k0 v0
  have hc1 := coords1 t
  intro g p l κ l' hp hκ hl
  unfold newK
  rw [hL]
  by_cases hlt : κ.val < 256 * (t.val % 32)
  · have h0 : t.val ≠ 0 := by omega
    have : L = [] := hn fun h => h0 ((cond_iff t).mp h)
    subst this
    rw [key_old _ _ _ _ _ _ _ _ (.inl (by rw [hc1]; omega)), View.writes_nil, Memref.IsWhole.read_unread]
    exact hold h0 g p l κ l' hp hlt hl
  · rw [key_new _ _ _ _ _ _ _ _ (⟨κ.val - 256 * (t.val % 32), by omega⟩ : Fin 256) l' (by rw [hc1]; simp only; omega) hl, whole_at]
    exact hx _ _ _ (by simp only; omega)

/-- After the body the value buffer holds the chunk too. -/
theorem new_holdsV (A : Vec Ideal S8x8192x256 .fp8e4m3) (n : Fin 8) (hold : t.val ≠ 0 → HoldsV A n (256 * (t.val % 32)) v0)
    (hx : ∀ (r l : Fin 256) (κ : Fin 8192), κ.val = 256 * (t.val % 32) + r.val → x5 (ix3 0 r l) = A (ix3 n κ l)) :
    HoldsV A n (256 * (t.val % 32) + 256) (newV c t x0 x1 x2 x3 x4 x5 k0 v0) := by
  obtain ⟨-, L, hL, hn, -⟩ := left_lists c t x0 x1 x2 x3 x4 x5 k0 v0
  have hc1 := coords1 t
  intro g d p κ l' hd hp hκ hl
  unfold newV
  rw [hL]
  by_cases hlt : κ.val < 256 * (t.val % 32)
  · have h0 : t.val ≠ 0 := by omega
    have : L = [] := hn fun h => h0 ((cond_iff t).mp h)
    subst this
    rw [val_old _ _ _ _ _ _ _ _ (.inr (.inl (by rw [hc1]; omega))), View.writes_nil, Memref.IsWhole.read_unread]
    exact hold h0 g d p κ l' hd hp hlt hl
  · rw [val_new _ _ _ _ _ _ _ _ hd (⟨κ.val - 256 * (t.val % 32), by omega⟩ : Fin 256) l' (by rw [hc1]; simp only; omega) hl, whole_at]
    exact hx _ _ _ (by simp only; omega)

/-- After the body the value buffer holds the ones. -/
theorem new_holdsOne (hold : t.val ≠ 0 → HoldsOne v0) : HoldsOne (newV c t x0 x1 x2 x3 x4 x5 k0 v0) := by
  obtain ⟨-, L, hL, hn, hy⟩ := left_lists c t x0 x1 x2 x3 x4 x5 k0 v0
  intro g p hp
  unfold newV
  rw [hL, val_old _ _ _ _ _ _ _ _ (.inl (by decide))]
  by_cases h0 : t.val = 0
  · obtain ⟨Z, rfl⟩ := hy ((cond_iff t).mpr h0)
    exact pad_ones _ _ _ _ _ hp
  · have : L = [] := hn fun h => h0 ((cond_iff t).mp h)
    subst this
    rw [View.writes_nil, Memref.IsWhole.read_unread]
    exact hold h0 g p hp

end

/-- The layer's result as an array. -/
def result (c : Dev nD) : Vec Ideal S8x8192x1024 .bf16 := fun y => Softmax.layer (A0 m c) (A1 m c) (A2 m c) (A3 m c) (A4 m c) (A5 m c) (y 0) (y 1) (y 2)

/-- Its block at point `t`. -/
def resultBlock (c : Dev nD) (t : Fin cfg0.N) : Vec Ideal S1x256x1024 .bf16 := fun y => result m c (ix3 (Fin.ofNat 8 (t.val / 32)) (Fin.ofNat 8192 (256 * (t.val % 32) + (y 1).val)) (y 2 : Fin 1024))

/-- One point keeps the invariant and leaves the result's block. -/
theorem step (c : Dev nD) (t : Fin cfg0.N) (k0 : Vec Ideal S4x9216x128 .fp8e4m3) (v0 : Vec Ideal S4x80x9216 .bf16) (h : Inv m c t.val k0 v0) :
    Inv m c (t.val + 1) (newK c t (iblk m c 0 t) (iblk m c 1 t) (iblk m c 2 t) (iblk m c 3 t) (iblk m c 4 t) (iblk m c 5 t) k0 v0) (newV c t (iblk m c 0 t) (iblk m c 1 t) (iblk m c 2 t) (iblk m c 3 t) (iblk m c 4 t) (iblk m c 5 t) k0 v0)
    ∧ ∀ f, (ms6 t).view.read (Elt Ideal) ((ms6 t).view.writes (Elt Ideal) f (left c t (iblk m c 0 t) (iblk m c 1 t) (iblk m c 2 t) (iblk m c 3 t) (iblk m c 4 t) (iblk m c 5 t) k0 v0).1) = resultBlock m c t := by
  have ht : t.val < 256 := t.isLt
  have hc1 := coords1 t
  have hK := new_holdsK c t (iblk m c 0 t) (iblk m c 1 t) (iblk m c 2 t) (iblk m c 3 t) (iblk m c 4 t) (iblk m c 5 t) k0 v0 (A1 m c) (Fin.ofNat 8 (t.val / 32)) (fun _ => h.1)
    fun r l κ hκ => blk4 m c t r l _ κ (by simp only [Fin.val_ofNat]; omega) hκ
  have hV := new_holdsV c t (iblk m c 0 t) (iblk m c 1 t) (iblk m c 2 t) (iblk m c 3 t) (iblk m c 4 t) (iblk m c 5 t) k0 v0 (A2 m c) (Fin.ofNat 8 (t.val / 32)) (fun _ => h.2.1)
    fun r l κ hκ => blk5 m c t r l _ κ (by simp only [Fin.val_ofNat]; omega) hκ
  have hO := new_holdsOne c t (iblk m c 0 t) (iblk m c 1 t) (iblk m c 2 t) (iblk m c 3 t) (iblk m c 4 t) (iblk m c 5 t) k0 v0 h.2.2
  refine ⟨⟨?_, ?_, fun _ => hO⟩, fun f => ?_⟩
  · by_cases he : t.val % 32 = 31
    · intro g p l κ l' _ hκ _; omega
    · rw [show (t.val + 1) / 32 = t.val / 32 by omega, show 256 * ((t.val + 1) % 32) = 256 * (t.val % 32) + 256 by omega]
      exact hK
  · by_cases he : t.val % 32 = 31
    · intro g d p κ l' _ _ hκ _; omega
    · rw [show (t.val + 1) / 32 = t.val / 32 by omega, show 256 * ((t.val + 1) % 32) = 256 * (t.val % 32) + 256 by omega]
      exact hV
  · funext y
    have hL := left_pieces c t (iblk m c 0 t) (iblk m c 1 t) (iblk m c 2 t) (iblk m c 3 t) (iblk m c 4 t) (iblk m c 5 t) k0 v0
    have hy : y = (ix3 0 (y 1 : Fin 256) (y 2 : Fin 1024) : S1x256x1024.Idx) := by
      funext a; fin_cases a
      · exact Subsingleton.elim (α := Fin 1) _ _
      · rfl
      · rfl
    rw [← hc1] at hK hV
    refine (congrArg _ hy).trans ((block_layer (grid0.coords t) (Fin.ofNat 8 (t.val / 32)) (A0 m c) (A1 m c) (A2 m c) _ _ _ _ _ _ _ hL (fun r l pos hp => blk3 m c t r l _ pos (by simp only [Fin.val_ofNat]; omega) (by rw [hp, hc1])) hK hV hO _ f _ _).trans ?_)
    rw [blk0, blk1, blk2, hc1]
    rfl

end Cert.KernelIdeal.Body

end
-- ==== Proof.KernelIdeal.Value.lean ====
module

public import proofs.«01_k».proof.Proof.KernelIdeal.Step

@[expose] public section

set_option maxRecDepth 16384

noncomputable section

/-! The run of the kernel over the extended reals: its result array is the attention layer's result. -/

namespace Cert.KernelIdeal.Value

open Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch after `s` points: the two buffers at contents of which the invariant holds, the rest at anything. -/
def scratch (c : Dev nD) (s : ℕ) : sProp 𝕄 :=
  iprop((∃ k0 v0, ⌜Inv m c s k0 v0⌝ ∗ owns (c : Thread nD τ) sc0 fullShare k0 ∗ owns (c : Thread nD τ) sc1 fullShare v0) ∗ ((∃ d, owns (c : Thread nD τ) sc2 fullShare d) ∗ (∃ d, owns (c : Thread nD τ) sc3 fullShare d)) ∗ (∃ r, prngReg c r))

/-- The proof data of the pipeline the inputs' buffers at their blocks, the output's at the result's block, the scratch by its invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => resultBlock m c t
  Φ s := scratch m c s.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = resultBlock m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d))
    ∗ (∃ d, owns (c : Thread nD τ) (ms6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t)
    ∗ owns (c : Thread nD τ) (ms6 t) fullShare ((dats m 0 c).after 6 t))

set_option maxHeartbeats 3200000 in
/-- The body at any point keeps the inputs' blocks, leaves the result's block and keeps the scratch's invariant. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl,
    show (dats m 0 c).Φ t.castSucc = scratch m c t.val from rfl, show (dats m 0 c).Φ t.succ = scratch m c (t.val + 1) from rfl,
    after0, after1, after2, after3, after4, after5, after6]
  unfold scratch
  iintro ⟨⟨⟨%k0, %v0, %hI, HK, HV⟩, ⟨HS, HT⟩, Hg⟩, Ho, ⟨%d0, H0⟩, ⟨%d1, H1⟩, ⟨%d2, H2⟩, ⟨%d3, H3⟩, ⟨%d4, H4⟩, ⟨%d5, H5⟩, H6⟩
  iapply (run_at c t (iblk m c 0 t) (iblk m c 1 t) (iblk m c 2 t) (iblk m c 3 t) (iblk m c 4 t) (iblk m c 5 t) k0 v0 Set.univ _)
  isplitl [H0]; · iexact H0
  isplitl [H1]; · iexact H1
  isplitl [H2]; · iexact H2
  isplitl [H3]; · iexact H3
  isplitl [H4]; · iexact H4
  isplitl [H5]; · iexact H5
  isplitl [H6]
  · icases H6 with ⟨%d6, H6⟩; iexists _; iexact H6
  isplitl [HK]; · iexact HK
  isplitl [HV]; · iexact HV
  isplitl [HS]; · iexact HS
  isplitl [HT]; · iexact HT
  have hstep := step m c t k0 v0 hI
  iintro ⟨H0, H1, H2, H3, H4, H5, ⟨%e6, H6⟩, HK, HV, HS, HT⟩
  isplitl [HK HV HS HT Hg]
  · isplitl [HK HV]
    · iexists _, _
      isplitr; swap
      · isplitl [HK]
        · unfold owns; iexists _; isplitr; swap; · iexact HK
          ipureintro; rfl
        unfold owns; iexists _; isplitr; swap; · iexact HV
        ipureintro; rfl
      ipureintro; exact hstep.1
    isplitl [HS HT]
    · isplitl [HS]; · iexact HS
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr; swap; · iexact H6
  ipureintro; exact hstep.2 e6

/-- The library's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The scratch as launched satisfies the invariant before the first point. -/
theorem scratch_in (c : Dev nD) : Pipeline.ΦA spec0 c ⊢ (dats m 0 c).Φ 0 := by
  rw [show (dats m 0 c).Φ 0 = scratch m c 0 from rfl, PhiA0_eq]
  unfold scratch
  iintro ⟨⟨⟨%k0, HK⟩, ⟨%v0, HV⟩, HS, HT⟩, Hg⟩
  isplitl [HK HV]
  · iexists k0, v0
    isplitr; swap
    · isplitl [HK]; · iexact HK
      iexact HV
    ipureintro; exact inv_zero m c k0 v0
  isplitl [HS HT]
  · isplitl [HS]; · iexact HS
    iexact HT
  iexact Hg

/-- The scratch after the last point is scratch at anything. -/
theorem scratch_out (c : Dev nD) : (dats m 0 c).Φ (Fin.last cfg0.N) ⊢ Pipeline.ΦA spec0 c := by
  rw [show (dats m 0 c).Φ (Fin.last cfg0.N) = scratch m c cfg0.N from rfl, PhiA0_eq]
  unfold scratch
  iintro ⟨⟨%k0, %v0, %hI, HK, HV⟩, ⟨HS, HT⟩, Hg⟩
  isplitl [HK HV HS HT]
  · isplitl [HK]; · iexists _; iexact HK
    isplitl [HV]; · iexists _; iexact HV
    isplitl [HS]; · iexact HS
    iexact HT
  iexact Hg

set_option backward.isDefEq.respectTransparency.types false in
/-- The launch: every run ends with the pipeline's arrays at what the data says. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scratch_in m) (hout := scratch_out m)

/-- The result's array at the end. -/
theorem final (c : Dev nD) : (dats m 0 c).arrAt 6 cfg0.N = result m c := by
  refine (dats m 0 c).arrAt_eq_of_covers 6 _ (by decide +kernel) fun t _ y => ?_
  blk_simp
  rw [after6]
  unfold resultBlock
  refine congrArg (result m c) ?_
  idx_vars y
  blk_ext [idx6 t]
  all_goals simp only [Fin.val_ofNat]; omega

/-- Every run ends with the result array at the layer's result and the arguments unchanged. -/
theorem run_value : θ_run defs (onTc (τ := τ) (main (F := Ideal))) ⟨m, fun _ => 0, ρ⟩ (fun r => ∀ c : Dev nD,
    r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
    ((h c).1 3).trans (((dats m 0 c).arrAt_in 3 rfl _).trans ((A_eq m c 3).trans (V_main_arg0 m c))),
    ((h c).1 4).trans (((dats m 0 c).arrAt_in 4 rfl _).trans ((A_eq m c 4).trans (V_main_arg1 m c))),
    ((h c).1 5).trans (((dats m 0 c).arrAt_in 5 rfl _).trans ((A_eq m c 5).trans (V_main_arg2 m c))),
    ((h c).1 0).trans (((dats m 0 c).arrAt_in 0 rfl _).trans ((A_eq m c 0).trans (V_main_arg3 m c))),
    ((h c).1 1).trans (((dats m 0 c).arrAt_in 1 rfl _).trans ((A_eq m c 1).trans (V_main_arg4 m c))),
    ((h c).1 2).trans (((dats m 0 c).arrAt_in 2 rfl _).trans ((A_eq m c 2).trans (V_main_arg5 m c)))⟩) (run_main m ρ)

end Cert.KernelIdeal.Value

end
-- ==== Proof.ReferenceIdeal.Value.lean ====
module

public import proofs.«01_k».proof.Proof.Gen.ReferenceIdeal.Frame
public import proofs.«01_k».proof.Proof.Softmax
public import Idealize.ShloMosaic.Lib.StableHlo.RunHlo
public import Idealize.ShloMosaic.Lib.Pointwise
public import Idealize.ShloMosaic.Lib.Pipeline.ValueKit
public import Idealize.ShloMosaic.Lib.WordCmp

@[expose] public section

set_option maxRecDepth 16384

noncomputable section

/-! What the reference computes: the attention layer of `Softmax.layer`. -/

namespace Cert.ReferenceIdeal.Value

open Cert.ReferenceIdeal Cert.ReferenceIdeal.Gen
open Idealize.ShloMosaic Idealize.ShloMosaic.TcCoe Idealize.SL.Sem
open Idealize.ShloMosaic.Pipeline (Dat)

/-! ## The reference's lines, stage by stage -/

/-- Which pairs of query and key are visible to each other. -/
def visible : IVec S8192x8192 1 :=
  andi
    (cmpi .sle
      (broadcastInDim S8192x8192 ![0, 1] bcast_S1x8192_S8192x8192_0_1
        (broadcastInDim S1x8192 ![1] bcast_S8192_S1x8192_1 (iotaInDim S8192 32 0)))
      (broadcastInDim S8192x8192 ![0, 1] bcast_S8192x1_S8192x8192_0_1
        (broadcastInDim S8192x1 ![0] bcast_S8192_S8192x1_0 (iotaInDim S8192 32 0))))
    (cmpi .sgt
      (broadcastInDim S8192x8192 ![0, 1] bcast_S1x8192_S8192x8192_0_1
        (broadcastInDim S1x8192 ![1] bcast_S8192_S1x8192_1 (iotaInDim S8192 32 0)))
      (broadcastInDim S8192x8192 ![0, 1] bcast_S8192x1_S8192x8192_0_1
        (subi (broadcastInDim S8192x1 ![0] bcast_S8192_S8192x1_0 (iotaInDim S8192 32 0))
          (broadcastInDim S8192x1 ![] bcast_S_S8192x1 (constantI S_ 32 1000#32)))))

/-- The scaled scores, the hidden ones at the mask's constant. -/
def masked (x : FVec Ideal S8x8192x1024 .bf16) (k : FVec Ideal S8x8192x256 .bf16) (neg : FVec Ideal S1x1 .f32)
    (q : FVec Ideal S16 .f32) (kk : FVec Ideal S4 .f32) : FVec Ideal S8x4x4x8192x8192 .f32 :=
  select
    (broadcastInDim S8x4x4x8192x8192 ![0, 1, 2, 3, 4] bcast_S1x1x1x8192x8192_S8x4x4x8192x8192_0_1_2_3_4
      (broadcastInDim S1x1x1x8192x8192 ![3, 4] bcast_S8192x8192_S1x1x1x8192x8192_3_4 visible))
    (mulf
      (Host.dotGeneral dot_S8x4x4x8192x64_S8x4x8192x64_S8x4x4x8192x8192_4_3_23_2_01_01 none
        (transpose S8x4x4x8192x64 [0, 2, 3, 1, 4] (shapeCast S8x8192x4x4x64 x shapeCasts_S8x8192x1024_S8x8192x4x4x64)
          transposes_S8x8192x4x4x64_S8x4x4x8192x64_0_2_3_1_4)
        (transpose S8x4x8192x64 [0, 2, 1, 3] (shapeCast S8x8192x4x64 k shapeCasts_S8x8192x256_S8x8192x4x64)
          transposes_S8x8192x4x64_S8x4x8192x64_0_2_1_3))
      (broadcastInDim S8x4x4x8192x8192 ![0, 1, 2, 3, 4] bcast_S1x4x4x1x1_S8x4x4x8192x8192_0_1_2_3_4
        (broadcastInDim S1x4x4x1x1 ![1, 2] bcast_S4x4_S1x4x4x1x1_1_2
          (mulf
            (mulf (shapeCast S4x4 q shapeCasts_S16_S4x4)
              (broadcastInDim S4x4 ![0, 1] bcast_S4x1_S4x4_0_1 (broadcastInDim S4x1 ![0] bcast_S4_S4x1_0 kk)))
            (broadcastInDim S4x4 ![] bcast_S_S4x4 (constant S_ .f32 0x3E000000#32))))))
    (broadcastInDim S8x4x4x8192x8192 ![] bcast_S_S8x4x4x8192x8192 (shapeCast S_ neg shapeCasts_S1x1_S_))

/-- The exponentials of the scores less their row's largest. -/
def expo (s : FVec Ideal S8x4x4x8192x8192 .f32) : FVec Ideal S8x4x4x8192x8192 .f32 :=
  Host.exp (subf s
    (broadcastInDim S8x4x4x8192x8192 ![0, 1, 2, 3, 4] bcast_S8x4x4x8192x1_S8x4x4x8192x8192_0_1_2_3_4
      (broadcastInDim S8x4x4x8192x1 ![0, 1, 2, 3] bcast_S8x4x4x8192_S8x4x4x8192x1_0_1_2_3
        (Host.reduce FloatOps.maximumf s (constant S_ .f32 0xFF800000#32) reducesTo_S8x4x4x8192x8192_S8x4x4x8192_d4 h_S_))))

/-- Each exponential's share of its row's sum. -/
def share (e : FVec Ideal S8x4x4x8192x8192 .f32) : FVec Ideal S8x4x4x8192x8192 .bf16 :=
  truncf .bf16 (mulf e
    (broadcastInDim S8x4x4x8192x8192 ![0, 1, 2, 3, 4] bcast_S8x4x4x8192x1_S8x4x4x8192x8192_0_1_2_3_4
      (Host.divf (broadcastInDim S8x4x4x8192x1 ![] bcast_S_S8x4x4x8192x1 (constant S_ .f32 0x3F800000#32))
        (broadcastInDim S8x4x4x8192x1 ![0, 1, 2, 3] bcast_S8x4x4x8192_S8x4x4x8192x1_0_1_2_3
          (Host.reduceAdd e (constant S_ .f32 0x00000000#32) reducesTo_S8x4x4x8192x8192_S8x4x4x8192_d4 h_S_)))))
    bitsLt_bf16_f32

/-- The values averaged by the shares, scaled, heads side by side. -/
def mixed (p : FVec Ideal S8x4x4x8192x8192 .bf16) (v : FVec Ideal S8x8192x256 .bf16) (vv : FVec Ideal S4 .f32) :
    FVec Ideal S8x8192x1024 .bf16 :=
  shapeCast S8x8192x1024
    (transpose S8x8192x4x4x64 [0, 3, 1, 2, 4]
      (truncf .bf16
        (mulf
          (Host.dotGeneral dot_S8x4x4x8192x8192_S8x4x8192x64_S8x4x4x8192x64_4_2_23_3_01_01 none p
            (transpose S8x4x8192x64 [0, 2, 1, 3] (shapeCast S8x8192x4x64 v shapeCasts_S8x8192x256_S8x8192x4x64)
              transposes_S8x8192x4x64_S8x4x8192x64_0_2_1_3))
          (broadcastInDim S8x4x4x8192x64 ![0, 1, 2, 3, 4] bcast_S1x4x1x1x1_S8x4x4x8192x64_0_1_2_3_4
            (broadcastInDim S1x4x1x1x1 ![1] bcast_S4_S1x4x1x1x1_1 vv)))
        bitsLt_bf16_f32)
      transposes_S8x4x4x8192x64_S8x8192x4x4x64_0_3_1_2_4)
    shapeCasts_S8x8192x4x4x64_S8x8192x1024

/-! ## Each stage at an index -/

/-- A key is visible to a query not before it and fewer than 1000 positions after it. -/
theorem visible_at (pos κ : Fin 8192) :
    visible (ix2 pos κ) = BitVec.ofBool (decide (κ.val ≤ pos.val ∧ pos.val < κ.val + 1000)) := by
  pointwise [visible]
  have hp : (BitVec.ofNat 32 pos.val).toInt = (pos.val : ℤ) := WordCmp.toInt_ofNat_of_lt (by omega)
  have hκ : (BitVec.ofNat 32 κ.val).toInt = (κ.val : ℤ) := WordCmp.toInt_ofNat_of_lt (by omega)
  have h1000 : (1000#32 : BitVec 32).toInt = 1000 := by decide
  have hs : (IntOp.subi (BitVec.ofNat 32 pos.val) 1000#32).toInt = (pos.val : ℤ) - 1000 := by
    show (BitVec.ofNat 32 pos.val - 1000#32).toInt = _
    rw [BitVec.toInt_sub, hp, h1000]
    apply Int.bmod_eq_of_le <;> omega
  rw [WordCmp.cmpi_sle_eq, WordCmp.cmpi_sgt_eq, hs, hp, hκ, WordCmp.andi_ofBool]
  congr 1
  rw [← Bool.decide_and]
  exact decide_eq_decide.mpr (by omega)

/-- The score of head `4g + h`'s query at `pos` for key `κ`. -/
theorem masked_at (x : FVec Ideal S8x8192x1024 .bf16) (k : FVec Ideal S8x8192x256 .bf16) (neg : FVec Ideal S1x1 .f32)
    (q : FVec Ideal S16 .f32) (kk : FVec Ideal S4 .f32) (hneg : ∀ i, neg i = (⊥ : EReal)) (n : Fin 8) (pos κ : Fin 8192)
    (lane : Fin 1024) :
    masked x k neg q kk (ix5 n (⟨lane.val / 256, by omega⟩ : Fin 4) (⟨lane.val / 64 % 4, by omega⟩ : Fin 4) pos κ)
      = Softmax.scoreOf x k q kk n pos lane κ := by
  pointwise [masked]
  rw [visible_at]
  unfold Softmax.scoreOf
  by_cases hv : κ.val ≤ pos.val ∧ pos.val < κ.val + 1000
  · rw [if_pos hv, decide_eq_true hv]
    show (_ : EReal) * _ = _
    refine congrArg₂ (· * ·) (Finset.sum_congr rfl fun d _ => ?_) ?_
    · rw [mul_comm]
      refine congrArg₂ (· * ·) (congrArg k ?_) (congrArg x ?_) <;>
      · idx_ext; all_goals omega
    · refine congrArg₂ (· * ·) (congrArg₂ (· * ·) (congrArg q ?_) rfl) rfl
      idx_ext; all_goals omega
  · rw [if_neg hv, decide_eq_false hv]
    exact hneg _

/-- An exponential is the weight of its score. -/
theorem expo_at (s : FVec Ideal S8x4x4x8192x8192 .f32) (n : Fin 8) (g h : Fin 4) (pos κ : Fin 8192) :
    expo s (ix5 n g h pos κ) = Softmax.weight (Softmax.most fun κ => s (ix5 n g h pos κ)) (s (ix5 n g h pos κ)) := by
  pointwise [expo]
  rw [show Ideal.ofBits .f32 4286578688#32 = (⊥ : EReal) by simp [Ideal.ofBits, Ideal.ieee]]
  rfl

/-- A share is the exponential times the reciprocal of its row's sum. -/
theorem share_at (e : FVec Ideal S8x4x4x8192x8192 .f32) (n : Fin 8) (g h : Fin 4) (pos κ : Fin 8192) :
    share e (ix5 n g h pos κ) = e (ix5 n g h pos κ) * Ideal.div 1 (∑ κ, e (ix5 n g h pos κ)) := by
  pointwise [share]

/-- The stages together are the attention layer. -/
theorem stages (x : FVec Ideal S8x8192x1024 .bf16) (k v : FVec Ideal S8x8192x256 .bf16) (neg : FVec Ideal S1x1 .f32)
    (q : FVec Ideal S16 .f32) (kk vv : FVec Ideal S4 .f32) (hneg : ∀ i, neg i = (⊥ : EReal)) :
    mixed (share (expo (masked x k neg q kk))) v vv = fun y => Softmax.layer x k v q kk vv (y 0) (y 1) (y 2) := by
  funext y
  idx_vars y
  pointwise [mixed]
  unfold Softmax.layer Softmax.attention
  refine congrArg₂ (· * ·) (Finset.sum_congr rfl fun κ _ => ?_) rfl
  rw [share_at]
  simp only [expo_at, masked_at x k neg q kk hneg]
  refine congrArg₂ (· * ·) rfl (congrArg v ?_)
  idx_ext; all_goals omega

/-! ## The run -/

variable (m : (ℓ : Loc nD τ sig) → Buf (Elt Ideal) ℓ) (ρ : Dev nD → PrngReg)

/-- The region leaves the queries as launched: the wider format holds the same values. -/
theorem final3 (c : Dev nD) : (dats m 0 c).arrAt 3 (cfgs 0).N = (m ((c.tc : Thread nD τ).loc main_arg0) : FVec Ideal S8x8192x1024 .fp8e4m3) := by
  refine (dats m 0 c).arrAt_eq_of_covers 3 _ (by decide +kernel) fun t _ y => ?_
  blk_simp
  rw [after0_3]
  frame_out
  show iblk m c 0 t y = _
  unfold iblk
  rfl

/-- The region leaves the keys as launched: the wider format holds the same values. -/
theorem final4 (c : Dev nD) : (dats m 0 c).arrAt 4 (cfgs 0).N = (m ((c.tc : Thread nD τ).loc main_arg1) : FVec Ideal S8x8192x256 .fp8e4m3) := by
  refine (dats m 0 c).arrAt_eq_of_covers 4 _ (by decide +kernel) fun t _ y => ?_
  blk_simp
  rw [after0_4]
  frame_out
  show iblk m c 1 t y = _
  unfold iblk
  rfl

/-- The region leaves the values as launched: the wider format holds the same values. -/
theorem final5 (c : Dev nD) : (dats m 0 c).arrAt 5 (cfgs 0).N = (m ((c.tc : Thread nD τ).loc main_arg2) : FVec Ideal S8x8192x256 .fp8e4m3) := by
  refine (dats m 0 c).arrAt_eq_of_covers 5 _ (by decide +kernel) fun t _ y => ?_
  blk_simp
  rw [after0_5]
  frame_out
  show iblk m c 2 t y = _
  unfold iblk
  rfl

/-- The region leaves the mask's constant. -/
theorem final6 (c : Dev nD) : (dats m 0 c).arrAt 6 (cfgs 0).N = (fun _ => ⊥ : S1x1.Idx → EReal) := by
  refine (dats m 0 c).arrAt_eq_of_covers 6 _ (by decide +kernel) fun t _ y => ?_
  blk_simp
  rw [after0_6]
  frame_out
  pointwise [k0_pay4]
  rfl

/-- The buffers as the region leaves them. -/
abbrev left (c : Dev nD) : Valuation τ sig (Elt Ideal) :=
  Pipeline.withArrays (cfgs 0).spec c (V0 m c) (fun w => (dats m 0 c).arrAt w (cfgs 0).N)

set_option maxHeartbeats 1600000 in
/-- What the lines after the region leave in the result is the stages of what the region leaves. -/
theorem tail (c : Dev nD) : Pipeline.afterTail₀ cfgs (dats m) 0 (V0 m) [hostOps1, hostOps1_1, hostOps1_2] c main_v51
    = mixed (share (expo (masked (left m c (Proc.tc.devRef main_v0_0)) (left m c (Proc.tc.devRef main_v0_1))
        (left m c (Proc.tc.devRef main_v0_3)) (left m c (Proc.tc.devRef main_arg3)) (left m c (Proc.tc.devRef main_arg4)))))
        (left m c (Proc.tc.devRef main_v0_2)) (left m c (Proc.tc.devRef main_arg5)) := by
  unfold Pipeline.afterTail₀
  simp only [hostOps1, hostOps1_1, hostOps1_2, List.flatten_cons, List.flatten_nil, List.cons_append, List.append_nil, List.nil_append]
  after_results
  rfl

/-- An array of the region is left at the region's result. -/
theorem left_arr (c : Dev nD) (w : Fin 7) :
    left m c (Proc.tc.devRef (Pipeline.arrRef spec0 w)) = (dats m 0 c).arrAt w (cfgs 0).N :=
  Pipeline.withArrays_arr _ (by decide) c (V0 m c) _ w

/-- Every other buffer is left as it was. -/
theorem left_rest (c : Dev nD) (b : Ref sig .tc) (hb : ∀ w, Pipeline.arrRef spec0 w ≠ b) :
    left m c (Proc.tc.devRef b) = V0 m c (Proc.tc.devRef b) :=
  Pipeline.withArrays_of_ne _ c (V0 m c) _ b hb

/-- What every run leaves in the result: the attention layer of the arguments. -/
theorem tail_layer (c : Dev nD) : Pipeline.afterTail₀ cfgs (dats m) 0 (V0 m) [hostOps1, hostOps1_1, hostOps1_2] c main_v51
    = fun y : S8x8192x1024.Idx => Softmax.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (y 0) (y 1) (y 2) := by
  have e0 := (left_arr m c 3).trans (final3 m c)
  have e1 := (left_arr m c 4).trans (final4 m c)
  have e2 := (left_arr m c 5).trans (final5 m c)
  have e6 := (left_arr m c 6).trans (final6 m c)
  have e3 := (left_rest m c main_arg3 (by exact (by decide : ∀ w, Pipeline.arrRef spec0 w ≠ main_arg3))).trans (V_main_arg3 m c)
  have e4 := (left_rest m c main_arg4 (by exact (by decide : ∀ w, Pipeline.arrRef spec0 w ≠ main_arg4))).trans (V_main_arg4 m c)
  have e5 := (left_rest m c main_arg5 (by exact (by decide : ∀ w, Pipeline.arrRef spec0 w ≠ main_arg5))).trans (V_main_arg5 m c)
  refine (tail m c).trans ?_
  have h := stages (left m c (Proc.tc.devRef main_v0_0)) (left m c (Proc.tc.devRef main_v0_1)) (left m c (Proc.tc.devRef main_v0_2))
    (left m c (Proc.tc.devRef main_v0_3)) (left m c (Proc.tc.devRef main_arg3)) (left m c (Proc.tc.devRef main_arg4))
    (left m c (Proc.tc.devRef main_arg5)) (fun i => congrFun e6 i)
  refine h.trans ?_
  funext y
  exact congr (congr (congr (congrArg₂ (fun a b => Softmax.layer a b) e0 e1) e2 |> fun h => congr h e3) e4) e5 |> fun h =>
    congrFun (congrFun (congrFun h (y 0)) (y 1)) (y 2)

/-- Every run ends with the result array at the attention layer of the arguments, and the arguments unchanged. -/
theorem run_value : θ_run defs (onTc (τ := τ) (main (F := Ideal))) ⟨m, fun _ => 0, ρ⟩ (fun r => ∀ c : Dev nD,
    r.2.mem ((c.tc : Thread nD τ).loc main_v51) = (fun y : S8x8192x1024.Idx => Softmax.layer (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v51 (Pipeline.mem_restRefs_of main_v51 (by decide) (by decide))).trans (tail_layer m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c)),
    (((h c).2 main_arg5 (Pipeline.mem_restRefs_of main_arg5 (by decide) (by decide))).trans (W_main_arg5 m (dats m) c))⟩) (run_main m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem Cert.Kernel

/-- Over the extended reals the kernel and the reference end with the same result: the attention layer of the arguments. -/
theorem same_result : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Body.result m c, Cert.KernelIdeal.Value.run_value m g, ?_⟩
  refine (θ_run _ _ _).mono (fun r h c => ?_) (Cert.ReferenceIdeal.Value.run_value m' g')
  refine ⟨(h c).1.trans ?_, (h c).2⟩
  obtain ⟨h0, h1, h2, h3, h4, h5⟩ := hargs c
  funext y
  rw [h0, h1, h2, h3, h4, h5]
  rfl

/-- Everything the certificate claims. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ,
  ⟨IdealRules.named_const.statement Cert.KernelIdeal.κ "mask" .f32 0xF149F2CA#32 ⊥ rfl,
  IdealRules.named_const.statement Cert.KernelIdeal.κ "log2e" .f32 0x3FB8AA3B#32 (((Real.log 2)⁻¹ : ℝ) : EReal) rfl⟩,
  same_result⟩

end Cert.Proof

end
